-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S4x1024x1024 : Shape := ⟨3, ![4, 1024, 1024]⟩
abbrev S2x1024x1024 : Shape := ⟨3, ![2, 1024, 1024]⟩
abbrev S8x128 : Shape := ⟨2, ![8, 128]⟩
abbrev S3x8x128 : Shape := ⟨3, ![3, 8, 128]⟩
abbrev S3 : Shape := ⟨1, ![3]⟩
abbrev S_ : Shape := ⟨0, ![]⟩
abbrev S2 : Shape := ⟨1, ![2]⟩
abbrev S1 : Shape := ⟨1, ![1]⟩
abbrev S1x1024x1024 : Shape := ⟨3, ![1, 1024, 1024]⟩
abbrev S1024x1024 : Shape := ⟨2, ![1024, 1024]⟩
abbrev S1x1x1 : Shape := ⟨3, ![1, 1, 1]⟩
abbrev S1x8x128 : Shape := ⟨3, ![1, 8, 128]⟩
abbrev S1x3x8x128 : Shape := ⟨4, ![1, 3, 8, 128]⟩
abbrev S1x1x1x1 : Shape := ⟨4, ![1, 1, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .bf16⟩
  | .hbm, ⟨3, _⟩ => ⟨S1024x8192, .f32⟩
  | .local _ .vmem, ⟨0, _⟩ => ⟨S1024x8192, .f32⟩
  | .local _ .vmem, ⟨1, _⟩ => ⟨S4x1024x1024, .bf16⟩
  | .local _ .vmem, ⟨2, _⟩ => ⟨S2x1024x1024, .f32⟩
  | .local _ .vmem, ⟨3, _⟩ => ⟨S2x1024x1024, .bf16⟩
  | .local _ .vmem, ⟨4, _⟩ => ⟨S8x128, .f32⟩
  | .local _ .vmem, ⟨5, _⟩ => ⟨S3x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v8 : BitVec 32 := Scalar.addi v2 c3_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v12 : BitVec 32 := Scalar.addi v2 c2_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let c0_i32_22 : BitVec 32 := 0#32
  ![v18.toNat, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_18 : BitVec 32 := 1#32
  let v19 : BitVec 32 := Scalar.muli v17 c1_i32_18
  let v20 : BitVec 32 := Scalar.addi c0_i32_19 v19
  v20.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_23 : BitVec 32 := 3#32
  let v28 : BitVec 32 := Scalar.addi v2 c3_i32_23
  let c4_i32_24 : BitVec 32 := 4#32
  let v29 : BitVec 32 := Scalar.remsi v28 c4_i32_24
  let c1_i32_29 : BitVec 32 := 1#32
  let v31 : BitVec 32 := Scalar.muli v29 c1_i32_29
  let v32 : BitVec 32 := Scalar.addi c0_i32_30 v31
  v32.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v40 : BitVec 32 := Scalar.addi v2 c2_i32_34
  let c4_i32_35 : BitVec 32 := 4#32
  let v41 : BitVec 32 := Scalar.remsi v40 c4_i32_35
  let c1_i32_40 : BitVec 32 := 1#32
  let v43 : BitVec 32 := Scalar.muli v41 c1_i32_40
  let v44 : BitVec 32 := Scalar.addi c0_i32_41 v43
  v44.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_45 : BitVec 32 := 1024#32
  let v52 : BitVec 32 := Scalar.muli v2 c1024_i32_45
  let c0_i32_49 : BitVec 32 := 0#32
  ![v52.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_56 : BitVec 32 := 1024#32
  let v62 : BitVec 32 := Scalar.muli v2 c1024_i32_56
  let c0_i32_61 : BitVec 32 := 0#32
  ![v62.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_62 : BitVec 32 := 1024#32
  let v68 : BitVec 32 := Scalar.muli v2 c1024_i32_62
  let c1024_i32_67 : BitVec 32 := 1024#32
  ![v68.toNat, 1024]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_79 : BitVec 32 := 1024#32
  let v85 : BitVec 32 := Scalar.muli v2 c1024_i32_79
  let c2048_i32 : BitVec 32 := 2048#32
  ![v85.toNat, 2048]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_99 : BitVec 32 := 1024#32
  let v105 : BitVec 32 := Scalar.muli v2 c1024_i32_99
  let c3072_i32 : BitVec 32 := 3072#32
  ![v105.toNat, 3072]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_123 : BitVec 32 := 1024#32
  let v128 : BitVec 32 := Scalar.muli v2 c1024_i32_123
  let c4096_i32 : BitVec 32 := 4096#32
  ![v128.toNat, 4096]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_148 : BitVec 32 := 1024#32
  let v151 : BitVec 32 := Scalar.muli v2 c1024_i32_148
  let c5120_i32 : BitVec 32 := 5120#32
  ![v151.toNat, 5120]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_173 : BitVec 32 := 1024#32
  let v174 : BitVec 32 := Scalar.muli v2 c1024_i32_173
  let c6144_i32 : BitVec 32 := 6144#32
  ![v174.toNat, 6144]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_198 : BitVec 32 := 1024#32
  let v197 : BitVec 32 := Scalar.muli v2 c1024_i32_198
  let c7168_i32 : BitVec 32 := 7168#32
  ![v197.toNat, 7168]
def k0_off11 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_223 : BitVec 32 := 1024#32
  let v220 : BitVec 32 := Scalar.muli v57 c1024_i32_223
  let c0_i32_228 : BitVec 32 := 0#32
  ![v220.toNat, 0]
def k0_off12 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_249 : BitVec 32 := 1024#32
  let v243 : BitVec 32 := Scalar.muli v57 c1024_i32_249
  let c1024_i32_254 : BitVec 32 := 1024#32
  ![v243.toNat, 1024]
def k0_off13 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_275 : BitVec 32 := 1024#32
  let v266 : BitVec 32 := Scalar.muli v57 c1024_i32_275
  let c2048_i32_280 : BitVec 32 := 2048#32
  ![v266.toNat, 2048]
def k0_off14 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_301 : BitVec 32 := 1024#32
  let v289 : BitVec 32 := Scalar.muli v57 c1024_i32_301
  let c3072_i32_306 : BitVec 32 := 3072#32
  ![v289.toNat, 3072]
def k0_off15 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_340 : BitVec 32 := 1024#32
  let v323 : BitVec 32 := Scalar.muli v57 c1024_i32_340
  let c4096_i32_345 : BitVec 32 := 4096#32
  ![v323.toNat, 4096]
def k0_off16 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_369 : BitVec 32 := 1024#32
  let v349 : BitVec 32 := Scalar.muli v57 c1024_i32_369
  let c5120_i32_374 : BitVec 32 := 5120#32
  ![v349.toNat, 5120]
def k0_off17 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_398 : BitVec 32 := 1024#32
  let v375 : BitVec 32 := Scalar.muli v57 c1024_i32_398
  let c6144_i32_403 : BitVec 32 := 6144#32
  ![v375.toNat, 6144]
def k0_off18 (d0 : Dev nD) (c1_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_50
  let c4_i32_51 : BitVec 32 := 4#32
  let v57 : BitVec 32 := Scalar.remsi v56 c4_i32_51
  let c1024_i32_427 : BitVec 32 := 1024#32
  let v401 : BitVec 32 := Scalar.muli v57 c1024_i32_427
  let c7168_i32_432 : BitVec 32 := 7168#32
  ![v401.toNat, 7168]
def k0_dev7 (d0 : Dev nD) : Nat :=
  let c0_i32_1009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1003 : BitVec 32 := 1#32
  let v957 : BitVec 32 := Scalar.addi v2 c1_i32_1003
  let c4_i32_1004 : BitVec 32 := 4#32
  let v958 : BitVec 32 := Scalar.remsi v957 c4_i32_1004
  let c1_i32_1008 : BitVec 32 := 1#32
  let v959 : BitVec 32 := Scalar.muli v958 c1_i32_1008
  let v960 : BitVec 32 := Scalar.addi c0_i32_1009 v959
  v960.toNat
def k0_dev8 (d0 : Dev nD) : Nat :=
  let c0_i32_1018 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1012 : BitVec 32 := 3#32
  let v967 : BitVec 32 := Scalar.addi v2 c3_i32_1012
  let c4_i32_1013 : BitVec 32 := 4#32
  let v968 : BitVec 32 := Scalar.remsi v967 c4_i32_1013
  let c1_i32_1017 : BitVec 32 := 1#32
  let v969 : BitVec 32 := Scalar.muli v968 c1_i32_1017
  let v970 : BitVec 32 := Scalar.addi c0_i32_1018 v969
  v970.toNat
def k0_dev9 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1021 : BitVec 32 := 2#32
  let v977 : BitVec 32 := Scalar.addi v2 c2_i32_1021
  let c4_i32_1022 : BitVec 32 := 4#32
  let v978 : BitVec 32 := Scalar.remsi v977 c4_i32_1022
  let c1_i32_1026 : BitVec 32 := 1#32
  let v979 : BitVec 32 := Scalar.muli v978 c1_i32_1026
  let v980 : BitVec 32 := Scalar.addi c0_i32_1027 v979
  v980.toNat
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Steps.lean ====
/-
Steps of a kernel that works through slots: a slot is the part of a scratch buffer under one rectangle, held
outright, and what is known of it is the vector a load at that rectangle reads.  Every rule below takes the slot as
`Held` (that vector known) or `Any` (nothing known) and gives it back so.
-/
module

public import Idealize.ShloMosaic.Lib.Pipeline.Kit
public import Idealize.ShloMosaic.Lib.Pipeline.Regions
public import Idealize.ShloMosaic.Lib.Transfers
public import Idealize.ShloMosaic.Lib.ViewIndex
public import Idealize.ShloMosaic.Lib.Tactic

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
  {U : Type} [URA U] {Lvl : Type}

local notation "𝕄" => MT nD τ sig Ix Val Name U Lvl

/-- A vector over the smaller shape, indexed by the larger one. -/
def unsq {A : Type} {s s' : Shape} (h : s'.numel = s.numel) (w : s'.Idx → A) : s.Idx → A :=
  fun y => w ((Shape.reshapeEquiv h).symm y)

/-- Casting `unsq w` back to the smaller shape gives `w`. -/
theorem shapeCast_unsq {A : Type} {s s' : Shape} (h : s'.numel = s.numel) (hc : s.ShapeCasts s') (w : s'.Idx → A) :
    shapeCast s' (unsq h w) hc = w := by
  funext j
  show w ((Shape.reshapeEquiv h).symm (Shape.reshapeEquiv h j)) = w j
  rw [Equiv.symm_apply_apply]

section Slots

variable {s : Shape} {e : EltTy} {cs : CoreSpace}

/-- The slot of `m` under `r` on thread `c`, its load reading `v`. -/
def Held (c : Thread nD τ) (m : Memref sig c.2.kind cs s e) (r : Rect s) (v : r.shape.Idx → Val e) : sProp 𝕄 :=
  iprop(∃ f, ⌜(m.access r).read Val f = v⌝ ∗ ((m.access r).loc c ↦[(m.access r).set]{fullShare} f))

/-- The slot of `m` under `r` on thread `c`, at any contents. -/
def Any (c : Thread nD τ) (m : Memref sig c.2.kind cs s e) (r : Rect s) : sProp 𝕄 :=
  iprop(∃ f : Buf Val ((m.access r).loc c), ((m.access r).loc c ↦[(m.access r).set]{fullShare} f))

theorem Held.any {c : Thread nD τ} {m : Memref sig c.2.kind cs s e} {r : Rect s} {v : r.shape.Idx → Val e} :
    (Held c m r v : sProp 𝕄) ⊢ Any c m r := by
  unfold Held Any
  iintro ⟨%f, -, H⟩
  iexists f; iexact H

theorem Any.held {c : Thread nD τ} {m : Memref sig c.2.kind cs s e} {r : Rect s} :
    (Any c m r : sProp 𝕄) ⊢ ∃ v, Held c m r v := by
  unfold Held Any
  iintro ⟨%f, H⟩
  iexists _; iexists f
  isplitr; · ipureintro; rfl
  iexact H

variable [Preorder Lvl] {Λ : Labels} {defs : Defs nD τ sig Val Λ} (𝒱 : Variants) (c : Thread nD τ)
variable {α : Type} {Q : α → sProp (MT nD τ sig Ix Val Name U Lvl)}

/-- A load of a slot reads its vector. -/
theorem wp_loadHeld {m : Memref sig c.2.kind cs s e} {r : Rect s} {hl : m.view.LoadsAt r.toLoadRect}
    {k : (r.shape.Idx → Val e) → Prog (TpuEff nD τ sig Val Λ c.2) α} {v : r.shape.Idx → Val e} :
    (Held c m r v : sProp 𝕄)
      ⊢ iprop((Held c m r v -∗ wp frame (wpE defs 𝒱 c none) Set.univ (k v) Q)
        -∗ wp frame (wpE defs 𝒱 c none) Set.univ (.op (.load m r.toLoadRect hl) k) Q) := by
  unfold Held
  iintro ⟨%f, %hf, H⟩ Hk
  subst hf
  iapply (wp_load_rect 𝒱 c none Set.univ (m := m) (r := r) (Finset.Subset.refl _)) $$ H
  iintro H
  iapply Hk
  iexists f
  isplitr; · ipureintro; rfl
  iexact H

/-- A load of a slot at any contents: the program goes on at every vector. -/
theorem wp_loadAny {m : Memref sig c.2.kind cs s e} {r : Rect s} {hl : m.view.LoadsAt r.toLoadRect}
    {k : (r.shape.Idx → Val e) → Prog (TpuEff nD τ sig Val Λ c.2) α} :
    (Any c m r : sProp 𝕄)
      ⊢ iprop((∀ v, Any c m r -∗ wp frame (wpE defs 𝒱 c none) Set.univ (k v) Q)
        -∗ wp frame (wpE defs 𝒱 c none) Set.univ (.op (.load m r.toLoadRect hl) k) Q) := by
  iintro H Hk
  ihave H' := Any.held $$ H
  icases H' with ⟨%v, H⟩
  iapply (wp_loadHeld 𝒱 c) $$ H
  iintro H
  iapply Hk
  iapply Held.any; iexact H

/-- A store to a slot. -/
theorem wp_storeAny {m : Memref sig c.2.kind cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} :
    (Any c m r : sProp 𝕄)
      ⊢ iprop((Held c m r w -∗ wp frame (wpE defs 𝒱 c none) Set.univ (k ⟨⟩) Q)
        -∗ wp frame (wpE defs 𝒱 c none) Set.univ (.op (.store m r w Finset.univ hx hm) k) Q) := by
  unfold Any Held
  iintro ⟨%f, H⟩ Hk
  iapply (wp_store 𝒱 c none Set.univ (m := m) (r := r) (Mk := Finset.univ) (S := (m.access r).set)
    (Finset.Subset.refl _)) $$ H
  iintro H
  iapply Hk
  iexists ((m.access r).write Val f w Finset.univ)
  isplitr
  · ipureintro; exact View.read_write_univ _ _
  iexact H

/-- A store to a slot whose vector was known. -/
theorem wp_storeHeld {m : Memref sig c.2.kind cs s e} {r : Rect s} {v w : r.shape.Idx → Val e} {hx : (m.access r).Stores Finset.univ}
    {hm : (Finset.univ : Finset r.shape.Idx) = Finset.univ ∨ ∀ a, r.stride a = 1}
    {k : PUnit → Prog (TpuEff nD τ sig Val Λ c.2) α} :
    (Held c m r v : sProp 𝕄)
      ⊢ iprop((Held c m r w -∗ wp frame (wpE defs 𝒱 c none) Set.univ (k ⟨⟩) Q)
        -∗ wp frame (wpE defs 𝒱 c none) Set.univ (.op (.store m r w Finset.univ hx hm) k) Q) :=
  Held.any.trans (wp_storeAny 𝒱 c)

variable (EC : UEmb Counters (MT nD τ sig Ix Val Name U Lvl))

/-- The squeeze of a slot written whole: the slot reads the vector written. -/
theorem read_squeeze_write {m : Memref sig c.2.kind cs s e} {r : Rect s} {hr : ∀ a, r.stride a = 1} {s' : Shape} {hq : r.shape.Squeezes s'}
    (f : (m.access r).ty.Contents Val) (w : s'.Idx → Val e) :
    (m.access r).read Val (((m.slice r hr).squeeze s' hq).view.write Val f w Finset.univ) = unsq hq.numel_eq w := by
  funext y
  have h := View.read_write_reshape (v := m.access r) hq.numel_eq f w ((Shape.reshapeEquiv hq.numel_eq).symm y)
  rw [Equiv.apply_symm_apply] at h
  exact h

theorem set_squeeze {m : Memref sig c.2.kind cs s e} {r : Rect s} {hr : ∀ a, r.stride a = 1} {s' : Shape} {hq : r.shape.Squeezes s'} :
    ((m.slice r hr).squeeze s' hq).view.set = (m.access r).set :=
  View.set_reshape (v := m.access r) hq.numel_eq

/-- A slot written whole through its squeeze is held, reading the vector written. -/
theorem held_write {m : Memref sig c.2.kind cs s e} {r : Rect s} {hr : ∀ a, r.stride a = 1} {s' : Shape} {hq : r.shape.Squeezes s'}
    (f : Buf Val ((m.access r).loc c)) (w : s'.Idx → Val e) :
    (((m.slice r hr).squeeze s' hq).view.loc c ↦[((m.slice r hr).squeeze s' hq).view.set]{fullShare}
        (((m.slice r hr).squeeze s' hq).view.write Val f w Finset.univ) : sProp 𝕄)
      ⊢ Held c m r (unsq hq.numel_eq w) := by
  unfold Held
  iintro H
  iexists (((m.slice r hr).squeeze s' hq).view.write Val f w Finset.univ)
  isplitr
  · ipureintro; exact read_squeeze_write c f w
  rw [set_squeeze c]
  iexact H

/-- A copy started into a slot from elements held at a share: in flight, it is to deliver the slot reading the
    vector under the source, and the share back. -/
theorem wp_issue [Infinite Name] [EC.LandsIn (upEmb : UEmb _ 𝕄)] {sp : Space} {s' : Shape}
    {src : Memref sig c.2.kind sp s' e} {m : Memref sig c.2.kind cs s e} {r : Rect s} {hr : ∀ a, r.stride a = 1}
    {hq : r.shape.Squeezes s'} {sm : SemLoc sig}
    {hsrc : src.view.WordExact} {hdst : ((m.slice r hr).squeeze s' hq).view.WordExact}
    {hsem : DmaTarget.Typed (nD := nD) sp sm (.here ((m.slice r hr).squeeze s' hq))}
    {k : PUnit → Prog (TpuEff nD τ sig Val Λ c.2) α} {q : PosShare TreeShare} {fs : Buf Val (src.view.loc c)}
    (ι : Ix) (N : ℕ) (hN : ((m.slice r hr).squeeze s' hq).view.amount sm = N) (hN0 : 0 < N) :
    iprop((src.view.loc c ↦[src.view.set]{q} fs) ∗ Any c m r ∗ semVal (c, sm) 0)
      ⊢ iprop((Transfers.Flight EC c sm ι N iprop(Held c m r (unsq hq.numel_eq (src.view.read Val fs)) ∗ (src.view.loc c ↦[src.view.set]{q} fs))
                -∗ wp frame (wpE defs 𝒱 c none) Set.univ (k ⟨⟩) Q)
          -∗ wp frame (wpE defs 𝒱 c none) Set.univ (.op (.enqueueDma src (.here ((m.slice r hr).squeeze s' hq)) sm hsrc hdst hsem) k) Q) := by
  unfold Any
  iintro ⟨Hs, ⟨%f, Hd⟩, Hv⟩ Hk
  iapply (Transfers.wp_dmaLocal EC 𝒱 c none (dst := (m.slice r hr).squeeze s' hq) (Sd := (m.access r).set) (fd := f) ι N hN hN0
    (by rw [set_squeeze])) $$ [Hs Hd Hv]
  · isplitl [Hs]; · iexact Hs
    isplitl [Hd]; · iexact Hd
    iexact Hv
  iintro HF
  iapply Hk
  iapply (Transfers.Flight_mono EC c (h := ?_)) $$ HF
  unfold Held
  iintro ⟨Hd, Hs⟩
  isplitl [Hd]
  · iexists (((m.slice r hr).squeeze s' hq).view.write Val f (src.view.read Val fs) Finset.univ)
    isplitr
    · ipureintro; exact read_squeeze_write c f _
    iexact Hd
  iexact Hs

end Slots

end Cert.Steps

end
-- ==== Proof.Slots.lean ====
/-
A buffer cut into slots and put back together.
-/
module

public import proofs.«01_k».proof.Proof.Steps

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
  {U : Type} [URA U] {Lvl : Type} [Preorder Lvl]

local notation "𝕄" => MT nD τ sig Ix Val Name U Lvl

variable {s : Shape} {e : EltTy} {cs : CoreSpace} {I : Type} [Fintype I] [DecidableEq I]

/-- The elements of the buffer of `m` in the slot `r`. -/
abbrev slot {k : Kind} (m : Memref sig k cs s e) (r : Rect s) : Finset m.view.ty.Idx := (m.access r).set

/-- The slots `r` cut the buffer of `m`: they are disjoint and cover it. -/
structure Cuts {k : Kind} (m : Memref sig k cs s e) (r : I → Rect s) : Prop where
  disj : ∀ i j, i ≠ j → Disjoint (slot m (r i)) (slot m (r j))
  cover : Finset.univ.biUnion (fun i => slot m (r i)) = Finset.univ

variable {c : Thread nD τ} {m : Memref sig c.2.kind cs s e} {r : I → Rect s}

/-- A buffer, cut into its slots. -/
theorem Cuts.split (h : Cuts m r) (f : Buf Val (m.view.loc c)) :
    (m.view.loc c ↦[Finset.univ]{fullShare} f : sProp 𝕄) ⊢ bigSep Finset.univ fun i => Any c m (r i) := by
  have h0 : (m.view.loc c ↦[Finset.univ]{fullShare} f : sProp 𝕄)
      = bigSep Finset.univ fun i => iprop(m.view.loc c ↦[slot m (r i)]{fullShare} f) := by
    rw [← h.cover]
    exact pointsTo_biUnion (ℓ := m.view.loc c) Finset.univ (fun i => slot m (r i)) fun i _ j _ => h.disj i j
  refine (Entails.of_eq h0).trans (bigSep_mono fun i _ => ?_)
  show iprop(m.view.loc c ↦[slot m (r i)]{fullShare} f) ⊢ iprop(∃ f : Buf Val (m.view.loc c), m.view.loc c ↦[slot m (r i)]{fullShare} f)
  iintro H
  iexists f; iexact H

/-- Its slots put back together. -/
theorem Cuts.join (h : Cuts m r) (f₀ : Buf Val (m.view.loc c)) (P : I → Buf Val (m.view.loc c) → Prop)
    (hP : ∀ i (f g : Buf Val (m.view.loc c)), (∀ j ∈ slot m (r i), g j = f j) → P i f → P i g) :
    (bigSep Finset.univ fun i => iprop(∃ f : Buf Val (m.view.loc c), ⌜P i f⌝ ∗ (m.view.loc c ↦[slot m (r i)]{fullShare} f)) : sProp 𝕄)
      ⊢ iprop(∃ g, ⌜∀ i, P i g⌝ ∗ m.view.loc c ↦[Finset.univ]{fullShare} g) := by
  haveI : Nonempty (Buf Val (m.view.loc c)) := ⟨f₀⟩
  refine (bigSep_exists_pi Finset.univ _).trans ?_
  iintro ⟨%fs, H⟩
  ihave H := (bigSep_pure_sep Finset.univ (fun i => P i (fs i)) (fun i => iprop(m.view.loc c ↦[slot m (r i)]{fullShare} fs i))) $$ H
  icases H with ⟨%hp, H⟩
  ihave H := (pointsTo_biUnion_join Finset.univ (fun i => slot m (r i)) fs f₀ fun i _ j _ => h.disj i j) $$ H
  icases H with ⟨%g, %hg, H⟩
  iexists g
  isplitr
  · ipureintro; exact fun i => hP i _ _ (hg i (Finset.mem_univ i)) (hp i (Finset.mem_univ i))
  rw [h.cover]
  iexact H

theorem Cuts.joinHeld (h : Cuts m r) (f₀ : Buf Val (m.view.loc c)) (v : ∀ i, (r i).shape.Idx → Val e) :
    (bigSep Finset.univ fun i => Held c m (r i) (v i) : sProp 𝕄)
      ⊢ iprop(∃ g : Buf Val (m.view.loc c), ⌜∀ i, (m.access (r i)).read Val g = v i⌝ ∗ m.view.loc c ↦[Finset.univ]{fullShare} g) :=
  h.join f₀ (fun i f => (m.access (r i)).read Val f = v i) fun i f g hfg hf => (View.read_congr (v := m.access (r i)) hfg).trans hf

theorem Cuts.joinAny (h : Cuts m r) (f₀ : Buf Val (m.view.loc c)) :
    (bigSep Finset.univ fun i => Any c m (r i) : sProp 𝕄) ⊢ iprop(∃ g : Buf Val (m.view.loc c), m.view.loc c ↦[Finset.univ]{fullShare} g) := by
  have h1 : (bigSep Finset.univ fun i => Any c m (r i) : sProp 𝕄)
      ⊢ bigSep Finset.univ fun i => iprop(∃ f : Buf Val (m.view.loc c), ⌜True⌝ ∗ (m.view.loc c ↦[slot m (r i)]{fullShare} f)) := by
    refine bigSep_mono fun i _ => ?_
    show iprop(∃ f : Buf Val (m.view.loc c), m.view.loc c ↦[slot m (r i)]{fullShare} f) ⊢ _
    iintro ⟨%f, H⟩
    iexists f
    isplitr; · ipureintro; trivial
    iexact H
  refine h1.trans ((h.join f₀ (fun _ _ => True) fun _ _ _ _ _ => trivial).trans ?_)
  iintro ⟨%g, -, H⟩
  iexists g; iexact H

/-- A points-to halves along its share. -/
theorem pointsTo_halves {ℓ : Loc nD τ sig} {S : Finset (Idx ℓ)} {q : PosShare TreeShare} {f : Buf Val ℓ} :
    (ℓ ↦[S]{q} f : sProp 𝕄) ⊣⊢ iprop((ℓ ↦[S]{q.left} f) ∗ ℓ ↦[S]{q.right} f) :=
  pointsTo_share (by rw [PosShare.left_op_right]; exact Part.mem_some _)

end Cert.Steps

end
-- ==== Proof.KernelIdeal.Protocol.lean ====
/-
The kernel's cells, what each copy and signal hands over, the levels, and the values the kernel computes.

Device `c` sends its row blocks of `x` to the three others and receives theirs for its own rows; it multiplies
the four blocks by the matching rows of `w`, tile by tile, exchanges the largest entry with the others and scales.
Slot `q` of a device's receive buffers is filled by device `tgt c q`.
-/
module

public import proofs.«01_k».proof.Proof.Steps
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Tactic

@[expose] public section

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging protocol, the rounds of the exchange, the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

abbrev 𝒱₀ : Variants := Variants.none

variable (m : (ℓ : Loc nD τ sig) → Buf (Elt F) ℓ) (ρ : Dev nD → PrngReg)

/-! ## The devices -/

set_option backward.proofsInPublic true in
/-- The device `e + 1` after `c`. -/
def tgt (c : Dev nD) (e : Fin 3) : Dev nD := ⟨(c.val + e.val + 1) % 4, Nat.mod_lt _ (by decide)⟩
/-- The index under which `tgt c e` reaches `c` again. -/
def rev (e : Fin 3) : Fin 3 := ⟨2 - e.val, by omega⟩

theorem rev_rev (e : Fin 3) : rev (rev e) = e := by revert e; decide
theorem tgt_rev (c : Dev nD) (e : Fin 3) : tgt (tgt c e) (rev e) = c := by revert c e; decide
theorem tgt_rev' (c : Dev nD) (e : Fin 3) : tgt (tgt c (rev e)) e = c := by revert c e; decide

theorem dev1_eq (c : Dev nD) : (⟨k0_dev1 c, k0_dev1_lt c⟩ : Dev nD) = tgt c 0 := Fin.ext (k0_dev1_eq c)
theorem dev2_eq (c : Dev nD) : (⟨k0_dev2 c, k0_dev2_lt c⟩ : Dev nD) = tgt c 2 := Fin.ext (k0_dev2_eq c)
theorem dev3_eq (c : Dev nD) : (⟨k0_dev3 c, k0_dev3_lt c⟩ : Dev nD) = tgt c 1 := Fin.ext (k0_dev3_eq c)
theorem dev4_eq (c : Dev nD) : (⟨k0_dev4 c, k0_dev4_lt c⟩ : Dev nD) = tgt c 0 := Fin.ext (k0_dev4_eq c)
theorem dev5_eq (c : Dev nD) : (⟨k0_dev5 c, k0_dev5_lt c⟩ : Dev nD) = tgt c 2 := Fin.ext (k0_dev5_eq c)
theorem dev6_eq (c : Dev nD) : (⟨k0_dev6 c, k0_dev6_lt c⟩ : Dev nD) = tgt c 1 := Fin.ext (k0_dev6_eq c)
theorem dev7_eq (c : Dev nD) : (⟨k0_dev7 c, k0_dev7_lt c⟩ : Dev nD) = tgt c 0 := Fin.ext (k0_dev7_eq c)
theorem dev8_eq (c : Dev nD) : (⟨k0_dev8 c, k0_dev8_lt c⟩ : Dev nD) = tgt c 2 := Fin.ext (k0_dev8_eq c)
theorem dev9_eq (c : Dev nD) : (⟨k0_dev9 c, k0_dev9_lt c⟩ : Dev nD) = tgt c 1 := Fin.ext (k0_dev9_eq c)

/-! ## The buffers and their slots -/

abbrev vM : Memref sig .tc .hbm S4096x1024 .bf16 := Memref.whole main_v1
abbrev wM : Memref sig .tc .hbm S4096x8192 .f32 := Memref.whole main_arg1
abbrev oM : Memref sig .tc .vmem S1024x8192 .f32 := Memref.whole cc0_stg0_0
abbrev xM : Memref sig .tc .vmem S4x1024x1024 .bf16 := Memref.whole cc0_scratch0
abbrev bM : Memref sig .tc .vmem S2x1024x1024 .f32 := Memref.whole cc0_scratch1
abbrev hM : Memref sig .tc .vmem S2x1024x1024 .bf16 := Memref.whole cc0_scratch2
abbrev aM : Memref sig .tc .vmem S8x128 .f32 := Memref.whole cc0_scratch3
abbrev pM : Memref sig .tc .vmem S3x8x128 .f32 := Memref.whole cc0_scratch4

theorem xR_inb (q : Fin 4) : ∀ a, (![q.val, 0, 0] : Fin 3 → ℕ) a + S1x1024x1024.size a ≤ S4x1024x1024.size a := by revert q; decide
theorem bR_inb (j : Fin 2) : ∀ a, (![j.val, 0, 0] : Fin 3 → ℕ) a + S1x1024x1024.size a ≤ S2x1024x1024.size a := by revert j; decide
theorem pR_inb (q : Fin 3) : ∀ a, (![q.val, 0, 0] : Fin 3 → ℕ) a + S1x8x128.size a ≤ S3x8x128.size a := by revert q; decide
theorem oR_inb (n : Fin 8) : ∀ a, (![0, 1024 * n.val] : Fin 2 → ℕ) a + S1024x1024.size a ≤ S1024x8192.size a := by revert n; decide

/-- Slot `q` of the blocks of `x`. -/
abbrev xR (q : Fin 4) : Rect S4x1024x1024 := Rect.unit (s := S4x1024x1024) ![q.val, 0, 0] S1x1024x1024.size (xR_inb q)
/-- Slot `j` of the tiles of `w`. -/
abbrev bR (j : Fin 2) : Rect S2x1024x1024 := Rect.unit (s := S2x1024x1024) ![j.val, 0, 0] S1x1024x1024.size (bR_inb j)
/-- Slot `q` of the received maxima. -/
abbrev pR (q : Fin 3) : Rect S3x8x128 := Rect.unit (s := S3x8x128) ![q.val, 0, 0] S1x8x128.size (pR_inb q)
/-- Tile `n` of the output. -/
abbrev oR (n : Fin 8) : Rect S1024x8192 := Rect.unit (s := S1024x8192) ![0, 1024 * n.val] S1024x1024.size (oR_inb n)

/-- Slot `q` of the blocks of `x`, as a copy's target. -/
abbrev xT (q : Fin 4) : Memref sig .tc .vmem S1024x1024 .bf16 := ((xM).slice (xR q) (fun _ => rfl)).squeeze S1024x1024 squeezes_S1x1024x1024_S1024x1024
/-- Slot `q` of the received maxima, as a copy's target. -/
abbrev pT (q : Fin 3) : Memref sig .tc .vmem S8x128 .f32 := ((pM).slice (pR q) (fun _ => rfl)).squeeze S8x128 squeezes_S1x8x128_S8x128
/-- Slot `j` of the tiles of `w`, as a copy's target. -/
abbrev bT (j : Fin 2) : Memref sig .tc .vmem S1024x1024 .f32 := ((bM).slice (bR j) (fun _ => rfl)).squeeze S1024x1024 squeezes_S1x1024x1024_S1024x1024

theorem vR_inb (t : Dev nD) : ∀ a, (![1024 * t.val, 0] : Fin 2 → ℕ) a + S1024x1024.size a ≤ S4096x1024.size a := by revert t; decide
/-- Row block `t` of a device's `x`. -/
abbrev vS (t : Dev nD) : Memref sig .tc .hbm S1024x1024 .bf16 :=
  (vM).slice (Rect.unit (s := S4096x1024) ![1024 * t.val, 0] S1024x1024.size (vR_inb t)) (fun _ => rfl)
theorem wR_inb (t : Dev nD) (n : Fin 8) : ∀ a, (![1024 * t.val, 1024 * n.val] : Fin 2 → ℕ) a + S1024x1024.size a ≤ S4096x8192.size a := by
  revert t n; decide
/-- The tile of `w` at row block `t` and column block `n`. -/
abbrev wS (t : Dev nD) (n : Fin 8) : Memref sig .tc .hbm S1024x1024 .f32 :=
  (wM).slice (Rect.unit (s := S4096x8192) ![1024 * t.val, 1024 * n.val] S1024x1024.size (wR_inb t n)) (fun _ => rfl)

/-! ## The semaphores -/

theorem s3_inb (e : Fin 3) : ∀ a, (![e.val] : Fin 1 → ℕ) a + S1.size a ≤ S3.size a := by revert e; decide
theorem s2_inb (j : Fin 2) : ∀ a, (![j.val] : Fin 1 → ℕ) a + S1.size a ≤ S2.size a := by revert j; decide
abbrev sem3 (S : DmaSems sig S3) (e : Fin 3) : DmaSem sig := ((S.slice (Rect.unit (s := S3) ![e.val] S1.size (s3_inb e))).squeeze S_ squeezes_S1_S_).sem
abbrev sem2 (S : DmaSems sig S2) (j : Fin 2) : DmaSem sig := ((S.slice (Rect.unit (s := S2) ![j.val] S1.size (s2_inb j))).squeeze S_ squeezes_S1_S_).sem

abbrev barS : Sem sig := (SemArray.scalar (sig.barrier 0 rfl) : Sems sig S_).sem
abbrev ownS : DmaSem sig := (cc0_scratch9 : DmaSems sig S_).sem
abbrev wSem (j : Fin 2) : DmaSem sig := sem2 cc0_scratch10 j

/-- The four arrays of semaphores of the exchange: blocks sent, blocks received, maxima sent, maxima received. -/
abbrev dS : Fin 4 → DmaSems sig S3
  | 0 => cc0_scratch5 | 1 => cc0_scratch6 | 2 => cc0_scratch7 | 3 => cc0_scratch8
abbrev dSem (k : Fin 4) (e : Fin 3) : DmaSem sig := sem3 (dS k) e

/-- A device's cells: the barrier (`none`) and the twelve of the exchange. -/
abbrev CI : Type := Option (Fin 4 × Fin 3)
abbrev csem : CI → SemLoc sig
  | none => .reg barS
  | some (k, e) => .dma (dSem k e)
abbrev cell (c : Dev nD) (i : CI) : GSem nD τ sig := ((c : Thread nD τ), csem i)

/-- Which of a device's cells a semaphore is. -/
def kindOf (s : SemLoc sig) : Option CI :=
  (([none] ++ (List.finRange 4).flatMap fun k => (List.finRange 3).map fun e => some (k, e)) : List CI).find? fun i => csem i = s

theorem kind_csem (i : CI) : kindOf (csem i) = some i := by revert i; decide
theorem kind_wSem (j : Fin 2) : kindOf (.dma (wSem j)) = none := by revert j; decide
theorem kind_ownS : kindOf (.dma ownS) = none := by decide
theorem kind_stage : kindOf (.dma (win0_0.sem 0)) = none := by decide

theorem csem_inj : Function.Injective csem := fun i j h => Option.some.inj ((kind_csem i).symm.trans ((congrArg kindOf h).trans (kind_csem j)))

abbrev NX : ℕ := (xT 0).view.dmaCredit
abbrev NA : ℕ := (pT 0).view.dmaCredit
theorem NX_pos : 0 < NX := View.dmaCredit_pos _ (by decide)
theorem NA_pos : 0 < NA := View.dmaCredit_pos _ (by decide)
/-- What one copy of the exchange credits. -/
abbrev amt : Fin 4 → ℕ
  | 0 => NX | 1 => NX | 2 => NA | 3 => NA
theorem amt_pos (k : Fin 4) : 0 < amt k := by
  fin_cases k
  · exact NX_pos
  · exact NX_pos
  · exact NA_pos
  · exact NA_pos

/-! ## The values -/

/-- The order in which device `c` takes the blocks: its own, then those of `tgt c 0`, `tgt c 2`, `tgt c 1`. -/
def blk (c : Dev nD) : ℕ → Dev nD
  | 0 => c | 1 => tgt c 0 | 2 => tgt c 2 | _ => tgt c 1

/-- Row block `t` of device `s`'s `x`. -/
def xt (s t : Dev nD) : Vec F S1x1024x1024 .bf16 :=
  unsq squeezes_S1x1024x1024_S1024x1024.numel_eq ((vS t).view.read (Elt F) (V m s main_v1))
/-- The tile of device `c`'s `w` at row block `t` and column block `n`. -/
def wtile (c t : Dev nD) (n : Fin 8) : Vec F S1x1024x1024 .f32 :=
  unsq squeezes_S1x1024x1024_S1024x1024.numel_eq ((wS t n).view.read (Elt F) (V m c main_arg1))
/-- The `p`-th block of `x` device `c` multiplies. -/
def xv (c : Dev nD) (p : ℕ) : Vec F S1x1024x1024 .bf16 := xt m (blk c p) c
/-- The `8 p + n`-th tile of `w` device `c` multiplies by, and the same narrowed. -/
def wt (c : Dev nD) (p : ℕ) (n : Fin 8) : Vec F S1x1024x1024 .f32 := wtile m c (blk c p) n
def wb (c : Dev nD) (p : ℕ) (n : Fin 8) : Vec F S1x1024x1024 .bf16 := k0_pay3 (wt m c p n)

/-- Tile `n` of the output after the first, second, third and fourth block. -/
def A0 (c : Dev nD) (n : Fin 8) : Vec F S1024x1024 .f32 := k0_pay4 (xv m c 0) (wb m c 0 n)
def A1 (c : Dev nD) (n : Fin 8) : Vec F S1024x1024 .f32 := k0_pay22 (xv m c 1) (wb m c 1 n) (A0 m c n)
def A2 (c : Dev nD) (n : Fin 8) : Vec F S1024x1024 .f32 := k0_pay22 (xv m c 2) (wb m c 2 n) (A1 m c n)
def A3 (c : Dev nD) (n : Fin 8) : Vec F S1024x1024 .f32 := k0_pay58 (xv m c 3) (wb m c 3 n) (A2 m c n)
/-- The largest entry of the tiles up to the `n`-th. -/
def mx (c : Dev nD) : ℕ → F .f32
  | 0 => k0_pay59 (xv m c 3) (wb m c 3 0) (A2 m c 0)
  | n + 1 => k0_pay62 (mx c n) (xv m c 3) (wb m c 3 (Fin.ofNat 8 (n + 1))) (A2 m c (Fin.ofNat 8 (n + 1)))
/-- What device `c` sends: its largest entry, repeated. -/
def amv (c : Dev nD) : Vec F S8x128 .f32 := broadcast S8x128 (mx m c 7)
/-- What device `c` receives. -/
def peers (c : Dev nD) : Vec F S3x8x128 .f32 := fun i => mx m (tgt c ⟨(i 0).val, (i 0).isLt⟩) 7
/-- Tile `n` of the result. -/
def A4 (c : Dev nD) (n : Fin 8) : Vec F S1024x1024 .f32 := k0_pay86 (mx m c 7) (peers m c) (A3 m c n)

/-! ## What is handed over -/

instance held_storable {s : Shape} {e : EltTy} (c : Thread nD τ) (M : Memref sig c.2.kind .vmem s e) (r : Rect s) (v : r.shape.Idx → Elt F e) :
    BI.Storable (upEmb : UEmb _ 𝕄) (Held c M r v) := by unfold Held; infer_instance
instance any_storable {s : Shape} {e : EltTy} (c : Thread nD τ) (M : Memref sig c.2.kind .vmem s e) (r : Rect s) :
    BI.Storable (upEmb : UEmb _ 𝕄) (Any (Val := Elt F) c M r) := by unfold Any; infer_instance

/-- The share of its maximum a device lends to its `e`-th copy. -/
def aq : Fin 3 → PosShare TreeShare
  | 0 => fullShare.left | 1 => fullShare.right.left | 2 => fullShare.right.right
/-- That share. -/
def AmSh (c : Dev nD) (e : Fin 3) : sProp 𝕄 :=
  (aM).view.loc (c : Thread nD τ) ↦[(aM).view.set]{aq e} amv m c
instance amSh_storable (c : Dev nD) (e : Fin 3) : BI.Storable (upEmb : UEmb _ 𝕄) (AmSh m c e) := by unfold AmSh; infer_instance

/-- The slots `tgt c e` fills on `c`, at any contents. -/
def XAny (c : Dev nD) (e : Fin 3) : sProp 𝕄 := Any (c : Thread nD τ) xM (xR e.castSucc)
def PAny (c : Dev nD) (e : Fin 3) : sProp 𝕄 := Any (c : Thread nD τ) pM (pR e)
instance xAny_storable (c : Dev nD) (e : Fin 3) : BI.Storable (upEmb : UEmb _ 𝕄) (XAny (F := F) c e) := by unfold XAny; infer_instance
instance pAny_storable (c : Dev nD) (e : Fin 3) : BI.Storable (upEmb : UEmb _ 𝕄) (PAny (F := F) c e) := by unfold PAny; infer_instance
/-- Those slots filled: `tgt c e`'s row block `c`, and its largest entry. -/
def XHas (c : Dev nD) (e : Fin 3) : sProp 𝕄 := Held (c : Thread nD τ) xM (xR e.castSucc) (xt m (tgt c e) c)
def PHas (c : Dev nD) (e : Fin 3) : sProp 𝕄 :=
  Held (c : Thread nD τ) pM (pR e) (unsq squeezes_S1x8x128_S8x128.numel_eq (amv m (tgt c e)))
instance xHas_storable (c : Dev nD) (e : Fin 3) : BI.Storable (upEmb : UEmb _ 𝕄) (XHas m c e) := by unfold XHas; infer_instance
instance pHas_storable (c : Dev nD) (e : Fin 3) : BI.Storable (upEmb : UEmb _ 𝕄) (PHas m c e) := by unfold PHas; infer_instance

/-- What the signal by `t` hands over of itself to the device `tgt t e`: its two slots, and that its cells are open. -/
def Gives (t : Dev nD) (e : Fin 3) : sProp 𝕄 :=
  iprop(XAny t e ∗ PAny t e ∗ reached ER (cell t (some (1, e))) 0 ∗ reached ER (cell t (some (3, e))) 0)
instance gives_storable (t : Dev nD) (e : Fin 3) : BI.Storable (upEmb : UEmb _ 𝕄) (Gives (F := F) t e) := by unfold Gives; infer_instance

/-- What the `e`-th copy of each kind hands over on device `c`. -/
def pay (c : Dev nD) : Fin 4 → Fin 3 → sProp 𝕄
  | 0, _ => iprop(emp)
  | 1, e => XHas m c e
  | 2, e => AmSh m c e
  | 3, e => PHas m c e
instance pay_storable (c : Dev nD) (k : Fin 4) (e : Fin 3) : BI.Storable (upEmb : UEmb _ 𝕄) (pay m c k e) := by
  unfold pay; split <;> infer_instance

/-! ## The schedule: one round -/

def Rd : Rounds.Schedule (GSem nD τ sig) (Fin 3) 𝕄 where
  duties g r := if r = 0 ∧ g.1.2 = .tc then
      match kindOf g.2 with
      | some none => Finset.univ
      | some (some _) => {0}
      | none => ∅
    else ∅
  unitless _ := False
  amount g _ _ := match kindOf g.2 with
    | some (some (k, _)) => amt k
    | _ => 1
  payload g _ d := match kindOf g.2 with
    | some none => Gives (tgt g.1.1 d) (rev d)
    | some (some (k, e)) => pay m g.1.1 k e
    | none => iprop(emp)
  amount_pos g _ _ _ := by
    split
    · exact amt_pos _
    · exact Nat.one_pos

instance Rd_storable (g : GSem nD τ sig) (r : ℕ) (d : Fin 3) : BI.Storable (upEmb : UEmb _ 𝕄) ((Rd (F := F) m).payload g r d) := by
  show BI.Storable upEmb (match kindOf g.2 with
    | some none => Gives (tgt g.1.1 d) (rev d)
    | some (some (k, e)) => pay m g.1.1 k e
    | none => iprop(emp))
  split <;> infer_instance

section Sched
variable (c : Dev nD)

theorem duties_bar : (Rd (F := F) m).duties (cell c none) 0 = Finset.univ := by
  dsimp only [Rd]; rw [if_pos ⟨rfl, rfl⟩, kind_csem]
theorem duties_dma (ke : Fin 4 × Fin 3) : (Rd (F := F) m).duties (cell c (some ke)) 0 = {0} := by
  dsimp only [Rd]; rw [if_pos ⟨rfl, rfl⟩, kind_csem]
theorem duties_later (g : GSem nD τ sig) : ∀ r, 1 ≤ r → (Rd (F := F) m).duties g r = ∅ :=
  fun r hr => by dsimp only [Rd]; rw [if_neg fun h => by omega]
theorem amount_bar (d : Fin 3) : (Rd (F := F) m).amount (cell c none) 0 d = 1 := by
  dsimp only [Rd]; rw [kind_csem]
theorem amount_dma (k : Fin 4) (e d : Fin 3) : (Rd (F := F) m).amount (cell c (some (k, e))) 0 d = amt k := by
  dsimp only [Rd]; rw [kind_csem]
theorem payload_bar (d : Fin 3) : (Rd (F := F) m).payload (cell c none) 0 d = Gives (tgt c d) (rev d) := by
  dsimp only [Rd]; rw [kind_csem]
theorem payload_dma (k : Fin 4) (e d : Fin 3) : (Rd (F := F) m).payload (cell c (some (k, e))) 0 d = pay m c k e := by
  dsimp only [Rd]; rw [kind_csem]

theorem expect_bar : (Rd (F := F) m).expect (cell c none) 0 = 3 := by
  unfold Schedule.expect Schedule.amountOf
  rw [duties_bar, Finset.sum_congr rfl fun d _ => amount_bar m c d, Finset.sum_const, Finset.card_univ, Fintype.card_fin, smul_eq_mul]
theorem expect_dma (k : Fin 4) (e : Fin 3) : (Rd (F := F) m).expect (cell c (some (k, e))) 0 = amt k := by
  unfold Schedule.expect Schedule.amountOf; rw [duties_dma, Finset.sum_singleton, amount_dma]

theorem rest_bar : bigSep ((Rd (F := F) m).duties (cell c none) 0 \ ∅) (fun d => (Rd (F := F) m).payload (cell c none) 0 d)
    = iprop(Gives (tgt c 0) (rev 0) ∗ Gives (tgt c 1) (rev 1) ∗ Gives (tgt c 2) (rev 2)) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_dma (k : Fin 4) (e : Fin 3) :
    bigSep ((Rd (F := F) m).duties (cell c (some (k, e))) 0 \ ∅) (fun d => (Rd (F := F) m).payload (cell c (some (k, e))) 0 d) = pay m c k e := by
  rw [Finset.sdiff_empty, duties_dma, bigSep_singleton, payload_dma]

end Sched

/-! ## Levels, and what a device owes -/

def L (g : GSem nD τ sig) : Finset Unit := if g.1.2 = .tc then {()} else ∅
/-- The barrier at 1, the received blocks at 2, the received maxima at 3, everything else at 0. -/
def lvs (s : SemLoc sig) : ℕ := match kindOf s with
  | some none => 1
  | some (some (1, _)) => 2
  | some (some (3, _)) => 3
  | _ => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem lvs_bar : lvs (csem none) = 1 := by unfold lvs; rw [kind_csem]
theorem lvs_none {s : SemLoc sig} (h : kindOf s = none) : lvs s = 0 := by unfold lvs; rw [h]
theorem lvs_xr (e : Fin 3) : lvs (csem (some (1, e))) = 2 := by unfold lvs; rw [kind_csem]; rfl
theorem lvs_ar (e : Fin 3) : lvs (csem (some (3, e))) = 3 := by unfold lvs; rw [kind_csem]; rfl

/-- Everything owed is owed at cells above level `n`. -/
def Above (n : ℕ) (O : CellTallies nD τ sig Unit) : Prop := ∀ g u, 0 < O g u → g.1.2 = .tc ∧ n < lvs g.2

theorem above_tally {n : ℕ} {t : Dev nD} {i : CI} {a : ℕ} (h : n < lvs (csem i)) : Above n (tallyAt (cell t i) () a) := by
  intro g u hg
  rw [tallyAt_apply] at hg
  by_cases h' : g = cell t i ∧ u = ()
  · rw [h'.1]; exact ⟨rfl, h⟩
  · rw [if_neg h'] at hg; exact absurd hg (Nat.lt_irrefl 0)
theorem above_add {n : ℕ} {O O' : CellTallies nD τ sig Unit} (h : Above n O) (h' : Above n O') : Above n (O + O') := by
  intro g u hg
  rw [Pi.add_apply, Finsupp.add_apply] at hg
  rcases Nat.pos_of_ne_zero (fun h0 => by omega : O g u + O' g u ≠ 0) |> fun hp => (by omega : 0 < O g u ∨ 0 < O' g u) with h1 | h1
  · exact h g u h1
  · exact h' g u h1
theorem above_zero {n : ℕ} : Above n 0 := fun g u h => absurd h (Nat.lt_irrefl 0)
theorem above_mono {n n' : ℕ} (hn : n' ≤ n) {O : CellTallies nD τ sig Unit} (h : Above n O) : Above n' O :=
  fun g u hg => ⟨(h g u hg).1, lt_of_le_of_lt hn (h g u hg).2⟩

/-- A device may wait at a cell below all it owes. -/
theorem mayWait {n : ℕ} {O : CellTallies nD τ sig Unit} (c : Dev nD) (s : SemLoc sig) (hs : lvs s ≤ n) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

/-- What the three signals, the three blocks and the three maxima of device `c` pay, one by one. -/
abbrev tb (c : Dev nD) (e : Fin 3) : CellTallies nD τ sig Unit := tallyAt (cell (tgt c e) none) () 1
abbrev tx (c : Dev nD) (e : Fin 3) : CellTallies nD τ sig Unit := tallyAt (cell (tgt c e) (some (1, rev e))) () NX
abbrev ta (c : Dev nD) (e : Fin 3) : CellTallies nD τ sig Unit := tallyAt (cell (tgt c e) (some (3, rev e))) () NA
/-- What is owed before each of the three copies of the maxima, of the blocks, and before each signal. -/
def OA1 (c : Dev nD) : CellTallies nD τ sig Unit := 0 + ta c 1
def OA2 (c : Dev nD) : CellTallies nD τ sig Unit := OA1 c + ta c 2
def OA (c : Dev nD) : CellTallies nD τ sig Unit := OA2 c + ta c 0
def OX1 (c : Dev nD) : CellTallies nD τ sig Unit := OA c + tx c 1
def OX2 (c : Dev nD) : CellTallies nD τ sig Unit := OX1 c + tx c 2
def OX (c : Dev nD) : CellTallies nD τ sig Unit := OX2 c + tx c 0
def OB1 (c : Dev nD) : CellTallies nD τ sig Unit := OX c + tb c 1
def OB2 (c : Dev nD) : CellTallies nD τ sig Unit := OB1 c + tb c 2
def O₀ (c : Dev nD) : CellTallies nD τ sig Unit := OB2 c + tb c 0

theorem above_OA (c : Dev nD) : Above 2 (OA c) := by
  unfold OA OA2 OA1
  have h (e : Fin 3) : Above 2 (ta c e) := above_tally (by rw [lvs_ar]; decide)
  exact above_add (above_add (above_add above_zero (h 1)) (h 2)) (h 0)
theorem above_OX (c : Dev nD) : Above 1 (OX c) := by
  unfold OX OX2 OX1
  have h (e : Fin 3) : Above 1 (tx c e) := above_tally (by rw [lvs_xr]; decide)
  exact above_add (above_add (above_add (above_mono (by decide) (above_OA c)) (h 1)) (h 2)) (h 0)
theorem above_O₀ (c : Dev nD) : Above 0 (O₀ c) := by
  unfold O₀ OB2 OB1
  have h (e : Fin 3) : Above 0 (tb c e) := above_tally (by rw [lvs_bar]; decide)
  exact above_add (above_add (above_add (above_mono (by decide) (above_OX c)) (h 1)) (h 2)) (h 0)

end Cert.KernelIdealProof

end
-- ==== Proof.KernelIdeal.Moves.lean ====
/-
The kernel's operations, one rule each, over the pieces of state they touch.
-/
module

public import proofs.«01_k».proof.Proof.KernelIdeal.Protocol

@[expose] public section

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The program `p` on device `c`, to `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The invariants of all cells, and the levels. -/
def Ctx (κ : Dev nD × CI → ℕ) : sProp 𝕄 :=
  iprop(levAts L lv ∗ bigSep Finset.univ fun p : Dev nD × CI => cellInv ER (Rd m) (κ p) (cell p.1 p.2))
instance ctx_persistent (κ : Dev nD × CI → ℕ) : BI.Persistent (Ctx m κ) := by unfold Ctx; infer_instance

theorem ctx_inv (κ : Dev nD × CI → ℕ) (c : Dev nD) (i : CI) : Ctx m κ ⊢ cellInv ER (Rd m) (κ (c, i)) (cell c i) := by
  unfold Ctx
  have h : (bigSep Finset.univ fun p : Dev nD × CI => cellInv ER (Rd m) (κ p) (cell p.1 p.2))
      ⊢ iprop(cellInv ER (Rd m) (κ (c, i)) (cell c i) ∗ bigSep (Finset.univ.erase (c, i)) fun p : Dev nD × CI => cellInv ER (Rd m) (κ p) (cell p.1 p.2)) :=
    Entails.of_eq (bigSep_erase (Finset.mem_univ (c, i)))
  iintro ⟨-, H⟩
  ihave H := h $$ H
  icases H with ⟨H, -⟩
  iexact H
theorem ctx_lev (κ : Dev nD × CI → ℕ) : Ctx m κ ⊢ levAts L lv := by
  unfold Ctx
  iintro ⟨H, -⟩
  iexact H

/-- What device `c` owes, with the invariants and levels at hand. -/
def Ow (κ : Dev nD × CI → ℕ) (c : Dev nD) (O : CellTallies nD τ sig Unit) : sProp 𝕄 :=
  iprop(Ctx m κ ∗ ∃ W, owes (c : Thread nD τ) O W)

variable (κ : Dev nD × CI → ℕ) (c : Dev nD)
variable {α : Type} {Q : α → sProp (MT nD τ sig Unit (Elt F) ℕ UU ℕ)}

/-! ## The tiles of `w` -/

/-- The share of `w` the copies into slot `j` read. -/
def wq : Fin 2 → PosShare TreeShare
  | 0 => fullShare.left | 1 => fullShare.right
def WSh (j : Fin 2) : sProp 𝕄 := (wM).view.loc (c : Thread nD τ) ↦[Finset.univ]{wq j} V m c main_arg1
def WTile (j : Fin 2) (t : Dev nD) (n : Fin 8) : sProp 𝕄 :=
  (wS t n).view.loc (c : Thread nD τ) ↦[(wS t n).view.set]{wq j} V m c main_arg1
def WRest (j : Fin 2) (t : Dev nD) (n : Fin 8) : sProp 𝕄 :=
  (wM).view.loc (c : Thread nD τ) ↦[Finset.univ \ (wS t n).view.set]{wq j} V m c main_arg1

abbrev NW : ℕ := (bT 0).view.dmaCredit
theorem NW_pos : 0 < NW := View.dmaCredit_pos _ (by decide)

/-- Slot `j`: free; being filled with tile `n` for block `p`; holding it. -/
def WIdle (j : Fin 2) : sProp 𝕄 := iprop(Any (c : Thread nD τ) bM (bR j) ∗ semVal ((c : Thread nD τ), .dma (wSem j)) 0 ∗ WSh m c j)
def WFly (j : Fin 2) (p : ℕ) (n : Fin 8) : sProp 𝕄 :=
  iprop(Transfers.Flight EC (c : Thread nD τ) (.dma (wSem j)) () NW iprop(Held (c : Thread nD τ) bM (bR j) (wt m c p n) ∗ WTile m c j (blk c p) n)
    ∗ WRest m c j (blk c p) n)
def WHas (j : Fin 2) (p : ℕ) (n : Fin 8) : sProp 𝕄 :=
  iprop(Held (c : Thread nD τ) bM (bR j) (wt m c p n) ∗ semVal ((c : Thread nD τ), .dma (wSem j)) 0 ∗ WSh m c j)

theorem WHas.idle {j : Fin 2} {p : ℕ} {n : Fin 8} : WHas m c j p n ⊢ WIdle m c j := by
  unfold WHas WIdle
  iintro ⟨H, H'⟩
  isplitl [H]
  · iapply Held.any; iexact H
  iexact H'

theorem wsh_split (j : Fin 2) (t : Dev nD) (n : Fin 8) : WSh m c j ⊣⊢ iprop(WTile m c j t n ∗ WRest m c j t n) := by
  unfold WSh WTile WRest
  exact pointsTo_split_subset (Finset.subset_univ _)

/-- The copy of a tile starts. -/
theorem wp_issueW (j : Fin 2) (p : ℕ) (n : Fin 8) {off : Fin 2 → ℕ} {h : ∀ a, off a + S1024x1024.size a ≤ S4096x8192.size a}
    (hoff : off = ![1024 * (blk c p).val, 1024 * n.val])
    {hsrc : ((wM).slice (Rect.unit (s := S4096x8192) off S1024x1024.size h) (fun _ => rfl)).view.WordExact} {hdst : (bT j).view.WordExact}
    {hsem : DmaTarget.Typed (nD := nD) (τ := τ) (p := Proc.tc) .hbm (.dma (wSem j)) (.here (bT j))} {k : PUnit → Prog (TpuEff nD τ sig (Elt F) Λ₀ .tc) α} :
    WIdle m c j ⊢ iprop((WFly m c j p n -∗ wpc c (k ⟨⟩) Q)
      -∗ wpc c (.op (.enqueueDma ((wM).slice (Rect.unit (s := S4096x8192) off S1024x1024.size h) (fun _ => rfl)) (.here (bT j)) (.dma (wSem j)) hsrc hdst hsem) k) Q) := by
  subst hoff
  unfold WIdle WFly
  iintro ⟨Hs, Hv, Hw⟩ Hk
  ihave Hw' := (wsh_split m c j (blk c p) n).1 $$ Hw
  icases Hw' with ⟨Ht, Hr⟩
  unfold WTile
  iapply (wp_issue 𝒱₀ (c : Thread nD τ) EC (src := wS (blk c p) n) (m := bM) (r := bR j) (hr := fun _ => rfl) (hq := squeezes_S1x1024x1024_S1024x1024)
    () NW rfl NW_pos) $$ [Ht Hs Hv]
  · isplitl [Ht]; · iexact Ht
    isplitl [Hs]; · iexact Hs
    iexact Hv
  iintro HF
  iapply Hk
  isplitl [HF]; · iexact HF
  iexact Hr

/-- The same over a tile no longer needed. -/
theorem wp_reissueW (j : Fin 2) (p' : ℕ) (n' : Fin 8) (p : ℕ) (n : Fin 8) {off : Fin 2 → ℕ} {h : ∀ a, off a + S1024x1024.size a ≤ S4096x8192.size a}
    (hoff : off = ![1024 * (blk c p).val, 1024 * n.val])
    {hsrc : ((wM).slice (Rect.unit (s := S4096x8192) off S1024x1024.size h) (fun _ => rfl)).view.WordExact} {hdst : (bT j).view.WordExact}
    {hsem : DmaTarget.Typed (nD := nD) (τ := τ) (p := Proc.tc) .hbm (.dma (wSem j)) (.here (bT j))} {k : PUnit → Prog (TpuEff nD τ sig (Elt F) Λ₀ .tc) α} :
    WHas m c j p' n' ⊢ iprop((WFly m c j p n -∗ wpc c (k ⟨⟩) Q)
      -∗ wpc c (.op (.enqueueDma ((wM).slice (Rect.unit (s := S4096x8192) off S1024x1024.size h) (fun _ => rfl)) (.here (bT j)) (.dma (wSem j)) hsrc hdst hsem) k) Q) :=
  (WHas.idle m c).trans (wp_issueW m c j p n hoff)

/-- A wait on a local copy, owing at cells above level 0. -/
theorem wp_waitOwn {O : CellTallies nD τ sig Unit} (hO : Above 0 O) {sem : DmaSem sig} (hs : kindOf (.dma sem) = none) {N : ℕ} {D : sProp 𝕄}
    {sp sp' : Space} {s s' : Shape} {e e' : EltTy}
    {srcw : Memref sig .tc sp' s' e'} {dstw : Memref sig .tc sp s e} {hsrc : srcw.view.WordExact} {hdst : dstw.view.WordExact}
    (hN : dstw.view.dmaCredit = N) {k : PUnit → Prog (TpuEff nD τ sig (Elt F) Λ₀ .tc) α} :
    Ow m κ c O ⊢ iprop(Transfers.Flight EC (c : Thread nD τ) (.dma sem) () N D
      -∗ (Ow m κ c O -∗ D -∗ semVal ((c : Thread nD τ), .dma sem) 0 -∗ wpc c (k ⟨⟩) Q)
      -∗ wpc c (.op (.waitDma2 sem srcw dstw hsrc hdst) k) Q) := by
  unfold Ow
  iintro ⟨#HC, %W, HO⟩ HF Hk
  iapply (Transfers.wp_waitLocalO EC 𝒱₀ (c : Thread nD τ) none () hN) $$ [HF HO]
  · isplitl [HF]; · iexact HF
    isplitl [HO]; · iexact HO
    iapply (mayWait c (.dma sem) (Nat.le_of_eq (lvs_none hs)) hO)
    iapply (ctx_lev m κ); iexact HC
  iintro ⟨HD, Hv, HO⟩
  iapply Hk $$ [HO] HD Hv
  isplitr; · iexact HC
  iexists _; iexact HO

/-- The wait for a tile. -/
theorem wp_waitW {O : CellTallies nD τ sig Unit} (hO : Above 0 O) (j : Fin 2) (p : ℕ) (n : Fin 8) {s' : Shape} {sp' : Space}
    {srcw : Memref sig .tc sp' s' .f32} {hsrc : srcw.view.WordExact} {hdst : (bT j).view.WordExact} {k : PUnit → Prog (TpuEff nD τ sig (Elt F) Λ₀ .tc) α} :
    Ow m κ c O ⊢ iprop(WFly m c j p n -∗ (Ow m κ c O -∗ WHas m c j p n -∗ wpc c (k ⟨⟩) Q)
      -∗ wpc c (.op (.waitDma2 (wSem j) srcw (bT j) hsrc hdst) k) Q) := by
  unfold WFly WHas
  iintro HO ⟨HF, Hr⟩ Hk
  iapply (wp_waitOwn m κ c hO (kind_wSem j) (N := NW) (srcw := srcw) (dstw := bT j) rfl) $$ HO HF
  iintro HO ⟨Hh, Ht⟩ Hv
  iapply Hk $$ HO
  isplitl [Hh]; · iexact Hh
  isplitl [Hv]; · iexact Hv
  iapply (wsh_split m c j (blk c p) n).2
  isplitl [Ht]; · iexact Ht
  iexact Hr

/-- A load of a tile. -/
theorem wp_loadW (j : Fin 2) (p : ℕ) (n : Fin 8) {hl : (bM).view.LoadsAt (bR j).toLoadRect} {k : Vec F S1x1024x1024 .f32 → Prog (TpuEff nD τ sig (Elt F) Λ₀ .tc) α} :
    WHas m c j p n ⊢ iprop((WHas m c j p n -∗ wpc c (k (wt m c p n)) Q) -∗ wpc c (.op (.load bM (bR j).toLoadRect hl) k) Q) := by
  unfold WHas
  iintro ⟨Hh, Hv⟩ Hk
  iapply (wp_loadHeld 𝒱₀ (c : Thread nD τ)) $$ Hh
  iintro Hh
  iapply Hk
  isplitl [Hh]; · iexact Hh
  iexact Hv

/-! ## The device's own block of `x` -/

/-- The share of `x` each of the four copies out of it reads: the device's own, then those to the others. -/
def vq : Option (Fin 3) → PosShare TreeShare
  | none => fullShare.left.left | some 0 => fullShare.left.right | some 1 => fullShare.right.left | some 2 => fullShare.right.right
def VSh (i : Option (Fin 3)) : sProp 𝕄 := (vM).view.loc (c : Thread nD τ) ↦[Finset.univ]{vq i} V m c main_v1
def VRow (i : Option (Fin 3)) (t : Dev nD) : sProp 𝕄 := (vS t).view.loc (c : Thread nD τ) ↦[(vS t).view.set]{vq i} V m c main_v1

theorem vsh_row (i : Option (Fin 3)) (t : Dev nD) : VSh m c i ⊢ VRow m c i t := by
  unfold VSh VRow
  exact (pointsTo_split_subset (Finset.subset_univ _)).1.trans (by iintro ⟨H, -⟩; iexact H)

/-- The device's own block under way into slot 3. -/
def OFly : sProp 𝕄 :=
  iprop(Transfers.Flight EC (c : Thread nD τ) (.dma ownS) () NX iprop(Held (c : Thread nD τ) xM (xR 3) (xv m c 0) ∗ VRow m c none c))

theorem wp_issueOwn {off : Fin 2 → ℕ} {h : ∀ a, off a + S1024x1024.size a ≤ S4096x1024.size a} (hoff : off = ![1024 * c.val, 0])
    {hsrc : ((vM).slice (Rect.unit (s := S4096x1024) off S1024x1024.size h) (fun _ => rfl)).view.WordExact} {hdst : (xT 3).view.WordExact}
    {hsem : DmaTarget.Typed (nD := nD) (τ := τ) (p := Proc.tc) .hbm (.dma ownS) (.here (xT 3))} {k : PUnit → Prog (TpuEff nD τ sig (Elt F) Λ₀ .tc) α} :
    VSh m c none ⊢ iprop(Any (c : Thread nD τ) xM (xR 3) -∗ semVal ((c : Thread nD τ), .dma ownS) 0 -∗ (OFly m c -∗ wpc c (k ⟨⟩) Q)
      -∗ wpc c (.op (.enqueueDma ((vM).slice (Rect.unit (s := S4096x1024) off S1024x1024.size h) (fun _ => rfl)) (.here (xT 3)) (.dma ownS) hsrc hdst hsem) k) Q) := by
  subst hoff
  unfold OFly
  iintro Hv Hs Hz Hk
  ihave Hv := (vsh_row m c none c) $$ Hv
  unfold VRow
  iapply (wp_issue 𝒱₀ (c : Thread nD τ) EC (src := vS c) (m := xM) (r := xR 3) (hr := fun _ => rfl) (hq := squeezes_S1x1024x1024_S1024x1024)
    () NX rfl NX_pos) $$ [Hv Hs Hz]
  · isplitl [Hv]; · iexact Hv
    isplitl [Hs]; · iexact Hs
    iexact Hz
  iexact Hk

theorem wp_waitO {O : CellTallies nD τ sig Unit} (hO : Above 0 O) {sp' : Space} {s' : Shape}
    {srcw : Memref sig .tc sp' s' .bf16} {hsrc : srcw.view.WordExact} {hdst : (xT 3).view.WordExact} {k : PUnit → Prog (TpuEff nD τ sig (Elt F) Λ₀ .tc) α} :
    Ow m κ c O ⊢ iprop(OFly m c -∗ (Ow m κ c O -∗ Held (c : Thread nD τ) xM (xR 3) (xv m c 0) -∗ semVal ((c : Thread nD τ), .dma ownS) 0 -∗ wpc c (k ⟨⟩) Q)
      -∗ wpc c (.op (.waitDma2 ownS srcw (xT 3) hsrc hdst) k) Q) := by
  unfold OFly
  iintro HO HF Hk
  iapply (wp_waitOwn m κ c hO kind_ownS (N := NX) (srcw := srcw) (dstw := xT 3) rfl) $$ HO HF
  iintro HO ⟨Hh, -⟩ Hv
  iapply Hk $$ HO Hh Hv

/-! ## The exchange -/

/-- What a device signals `tgt c e` with: the right to, and what it gives of itself. -/
def SigT (e : Fin 3) : sProp 𝕄 :=
  iprop(dutyTok ER (cell (tgt c e) none) 0 (rev e) ∗ reached ER (cell (tgt c e) none) 0 ∗ Gives c e)

theorem wp_sig (e : Fin 3) {n : Dev nD} (hn : n = tgt c e) {O₀ : CellTallies nD τ sig Unit} (O : CellTallies nD τ sig Unit) (hO : O₀ = O + tb c e)
    {a : ℕ} (ha : a = 1) {k : PUnit → Prog (TpuEff nD τ sig (Elt F) Λ₀ .tc) α} :
    Ow m κ c O₀ ⊢ iprop(SigT (F := F) c e -∗ (Ow m κ c O -∗ wpc c (k ⟨⟩) Q)
      -∗ wpc c (.op (.semSignal (n : Thread nD τ) barS a) k) Q) := by
  subst hn ha
  unfold Ow SigT
  iintro ⟨#HC, %W, HO⟩ ⟨Ht, Hr, Hg⟩ Hk
  iapply (Rounds.wp_signal 𝒱₀ ER (Rd m) (c : Thread nD τ) none (dst := (tgt c e : Thread nD τ)) (κ := κ (tgt c e, none))
      (d := rev e) (by rw [duties_bar]; exact Finset.mem_univ _) (amount_bar m (tgt c e) (rev e)) () O hO) $$ [HO Ht Hr Hg]
  · isplitr; · iapply (ctx_inv m κ); iexact HC
    isplitl [HO]; · iexact HO
    isplitl [Ht]; · iexact Ht
    isplitl [Hg]; · rw [payload_bar, tgt_rev, rev_rev]; iexact Hg
    iexact Hr
  iintro HO
  iapply Hk
  isplitr; · iexact HC
  iexists _; iexact HO

/-- A device's right to wait on one of its cells. -/
def Tok (k : Fin 4) (e : Fin 3) : sProp 𝕄 := iprop(cred (tallyAt (cell c (some (k, e))) () (amt k)) ∗ atPos ER (cell c (some (k, e))) 0 ∅ 0)
def BarT : sProp 𝕄 := iprop(cred (tallyAt (cell c none) () 3) ∗ atPos ER (cell c none) 0 ∅ 0)

/-- The wait at the barrier, for all three. -/
theorem wp_waitBar {O : CellTallies nD τ sig Unit} (hO : Above 1 O) {a : ℕ} (ha : a = 3) {k : PUnit → Prog (TpuEff nD τ sig (Elt F) Λ₀ .tc) α} :
    Ow m κ c O ⊢ iprop(BarT (F := F) c
      -∗ (Ow m κ c O -∗ semVal (cell c none) 0 -∗ Gives (tgt c 0) (rev 0) -∗ Gives (tgt c 1) (rev 1) -∗ Gives (tgt c 2) (rev 2) -∗ wpc c (k ⟨⟩) Q)
      -∗ wpc c (.op (.semWait barS a) k) Q) := by
  subst ha
  unfold Ow BarT
  iintro ⟨#HC, %W, HO⟩ ⟨Hc, Ha⟩ Hk
  iapply (Rounds.wp_wait_rest_token 𝒱₀ ER (Rd m) (c : Thread nD τ) none (κ := κ (c, none))
      (wpE_semWait_eq 𝒱₀ (c : Thread nD τ) none Set.univ) (Set.mem_univ _) () (O := O) (W := W) (R := 0) (m := 0) (T := ∅)
      (by rw [expect_bar])) $$ [Hc HO Ha]
  · isplitr; · iapply (ctx_inv m κ); iexact HC
    isplitl [Hc]; · iexact Hc
    isplitl [HO]; · iexact HO
    isplitr
    · iapply (mayWait c (csem none) (Nat.le_of_eq lvs_bar) hO); iapply (ctx_lev m κ); iexact HC
    iexact Ha
  iintro ⟨HO, Ha, -, Hp⟩
  ihave Hp := (Entails.of_eq (rest_bar m c)) $$ Hp
  icases Hp with ⟨H0, H1, H2⟩
  imod (Rounds.cell_close ER (Rd m) (Set.mem_univ (κ (c, none))) (fun h => h) (R := 0 + 1) (duties_later m (cell c none))) $$ [Ha] with Hz
  · isplitr; · iapply (ctx_inv m κ); iexact HC
    iexact Ha
  iapply Hk $$ [HO] Hz H0 H1 H2
  isplitr; · iexact HC
  iexists _; iexact HO

/-- The wait at one of the twelve cells. -/
theorem wp_waitC (k : Fin 4) (e : Fin 3) {n : ℕ} (hn : lvs (csem (some (k, e))) ≤ n) {O : CellTallies nD τ sig Unit} (hO : Above n O)
    {sp sp' : Space} {s s' : Shape} {et et' : EltTy}
    {srcw : Memref sig .tc sp' s' et'} {dstw : Memref sig .tc sp s et} {hsrc : srcw.view.WordExact} {hdst : dstw.view.WordExact}
    (hN : dstw.view.dmaCredit = amt k) {kk : PUnit → Prog (TpuEff nD τ sig (Elt F) Λ₀ .tc) α} :
    Ow m κ c O ⊢ iprop(Tok (F := F) c k e -∗ (Ow m κ c O -∗ semVal (cell c (some (k, e))) 0 -∗ pay m c k e -∗ wpc c (kk ⟨⟩) Q)
      -∗ wpc c (.op (.waitDma2 (dSem k e) srcw dstw hsrc hdst) kk) Q) := by
  unfold Ow Tok
  iintro ⟨#HC, %W, HO⟩ ⟨Hc, Ha⟩ Hk
  iapply (Rounds.wp_wait_rest_token 𝒱₀ ER (Rd m) (c : Thread nD τ) none (κ := κ (c, some (k, e)))
      (wpE_waitDma2_eq 𝒱₀ (c : Thread nD τ) none Set.univ) (Set.mem_univ _) () (O := O) (W := W) (R := 0) (m := 0) (T := ∅)
      (by rw [Nat.zero_add, expect_dma, hN])) $$ [Hc HO Ha]
  · isplitr; · iapply (ctx_inv m κ); iexact HC
    isplitl [Hc]; · rw [hN]; iexact Hc
    isplitl [HO]; · iexact HO
    isplitr
    · iapply (mayWait c (csem (some (k, e))) hn hO); iapply (ctx_lev m κ); iexact HC
    iexact Ha
  iintro ⟨HO, Ha, -, Hp⟩
  ihave Hp := (Entails.of_eq (rest_dma m c k e)) $$ Hp
  imod (Rounds.cell_close ER (Rd m) (Set.mem_univ (κ (c, some (k, e)))) (fun h => h) (R := 0 + 1) (duties_later m (cell c (some (k, e))))) $$ [Ha] with Hz
  · isplitr; · iapply (ctx_inv m κ); iexact HC
    iexact Ha
  iapply Hk $$ [HO] Hz Hp
  isplitr; · iexact HC
  iexists _; iexact HO

/-- A device's rights to a copy to `tgt c e`: to pay its own cell and the target's, and its place at its own cell. -/
def SendT (k k' : Fin 4) (e : Fin 3) : sProp 𝕄 :=
  iprop(dutyTok ER (cell c (some (k, e))) 0 0 ∗ reached ER (cell c (some (k, e))) 0 ∗ atPos ER (cell c (some (k, e))) 0 ∅ 0
    ∗ dutyTok ER (cell (tgt c e) (some (k', rev e))) 0 0)

/-- The copy of a row block of `x` to `tgt c e`. -/
theorem wp_sendX (e q : Fin 3) (hq : q = rev e) {n : Dev nD} (hn : n = tgt c e) {off : Fin 2 → ℕ} {h : ∀ a, off a + S1024x1024.size a ≤ S4096x1024.size a}
    (hoff : off = ![1024 * (tgt c e).val, 0])
    {O₀ : CellTallies nD τ sig Unit} (O : CellTallies nD τ sig Unit) (hO : O₀ = O + tx c e)
    {hsc : (xT q.castSucc : Memref sig (Dev.tc n : Thread nD τ).2.kind .vmem S1024x1024 .bf16).view.ref.isScScratch = false}
    {hsrc : ((vM).slice (Rect.unit (s := S4096x1024) off S1024x1024.size h) (fun _ => rfl)).view.WordExact} {hdst : (xT q.castSucc).view.WordExact}
    {hsem : DmaTarget.Typed .hbm (.dma (dSem 1 q)) (.remote (Dev.tc n : Thread nD τ) (xT q.castSucc) (.dma (dSem 0 e)) hsc)} {k : PUnit → Prog (TpuEff nD τ sig (Elt F) Λ₀ .tc) α} :
    Ow m κ c O₀ ⊢ iprop(SendT (F := F) c 0 1 e -∗ VSh m c (some e) -∗ XAny (F := F) (tgt c e) (rev e) -∗ reached ER (cell (tgt c e) (some (1, rev e))) 0
      -∗ (Ow m κ c O -∗ Tok (F := F) c 0 e -∗ wpc c (k ⟨⟩) Q)
      -∗ wpc c (.op (.enqueueDma ((vM).slice (Rect.unit (s := S4096x1024) off S1024x1024.size h) (fun _ => rfl))
            (.remote (Dev.tc n : Thread nD τ) (xT q.castSucc) (.dma (dSem 0 e)) hsc) (.dma (dSem 1 q)) hsrc hdst hsem) k) Q) := by
  subst hn hq hoff
  unfold Ow SendT XAny Any
  iintro ⟨#HC, %W, HO⟩ ⟨Ht, Hr, Ha, Ht'⟩ Hv ⟨%fd, Hd⟩ Hr' Hk
  ihave Hv := (vsh_row m c (some e) (tgt c e)) $$ Hv
  unfold VRow
  iapply (Rounds.wp_send_pointsTo 𝒱₀ ER (Rd m) (c : Thread nD τ) none (κ₁ := κ (c, some (0, e))) (κ₂ := κ (tgt c e, some (1, rev e)))
    (c' := (tgt c e : Thread nD τ)) (src := vS (tgt c e)) (dst := xT (rev e).castSucc) (q := vq (some e)) (fs := V m c main_v1)
    (r₁ := 0) (r₂ := 0) (d₁ := 0) (d₂ := 0) (fd := fd)
    (by rw [duties_dma]; exact Finset.mem_singleton_self _) (by rw [duties_dma]; exact Finset.mem_singleton_self _)
    () () NX rfl (amount_dma m c 0 e 0) (amount_dma m (tgt c e) 1 (rev e) 0) O hO (W := W)
    (by rw [payload_dma]; exact (Laws.affine (PROP := sProp 𝕄)))
    (by
      rw [payload_dma]
      show _ ⊢ XHas m (tgt c e) (rev e)
      unfold XHas
      rw [tgt_rev]
      exact held_write (tgt c e : Thread nD τ) fd _)) $$ [Ht Hr Ht' Hv Hd Hr' HO]
  · isplitr; · iapply (ctx_inv m κ); iexact HC
    isplitr; · iapply (ctx_inv m κ); iexact HC
    isplitl [Hv]; · iexact Hv
    isplitl [Hd]; · rw [set_squeeze (tgt c e : Thread nD τ)]; iexact Hd
    isplitl [HO]; · iexact HO
    isplitl [Ht]; · iexact Ht
    isplitl [Hr]; · iexact Hr
    isplitl [Ht']; · iexact Ht'
    iexact Hr'
  iintro ⟨Hc, HO⟩
  iapply Hk $$ [HO]
  · isplitr; · iexact HC
    iexists _; iexact HO
  unfold Tok
  isplitl [Hc]; · iexact Hc
  iexact Ha

/-- The copy of the largest entry to `tgt c e`. -/
theorem wp_sendA (e q : Fin 3) (hq : q = rev e) {n : Dev nD} (hn : n = tgt c e)
    {O₀ : CellTallies nD τ sig Unit} (O : CellTallies nD τ sig Unit) (hO : O₀ = O + ta c e)
    {hsc : (pT q : Memref sig (Dev.tc n : Thread nD τ).2.kind .vmem S8x128 .f32).view.ref.isScScratch = false}
    {hsrc : (aM).view.WordExact} {hdst : (pT q).view.WordExact}
    {hsem : DmaTarget.Typed .vmem (.dma (dSem 3 q)) (.remote (Dev.tc n : Thread nD τ) (pT q) (.dma (dSem 2 e)) hsc)} {k : PUnit → Prog (TpuEff nD τ sig (Elt F) Λ₀ .tc) α} :
    Ow m κ c O₀ ⊢ iprop(SendT (F := F) c 2 3 e -∗ AmSh m c e -∗ PAny (F := F) (tgt c e) (rev e) -∗ reached ER (cell (tgt c e) (some (3, rev e))) 0
      -∗ (Ow m κ c O -∗ Tok (F := F) c 2 e -∗ wpc c (k ⟨⟩) Q)
      -∗ wpc c (.op (.enqueueDma aM
            (.remote (Dev.tc n : Thread nD τ) (pT q) (.dma (dSem 2 e)) hsc) (.dma (dSem 3 q)) hsrc hdst hsem) k) Q) := by
  subst hn hq
  unfold Ow SendT PAny Any AmSh
  iintro ⟨#HC, %W, HO⟩ ⟨Ht, Hr, Ha, Ht'⟩ Hv ⟨%fd, Hd⟩ Hr' Hk
  iapply (Rounds.wp_send_pointsTo 𝒱₀ ER (Rd m) (c : Thread nD τ) none (κ₁ := κ (c, some (2, e))) (κ₂ := κ (tgt c e, some (3, rev e)))
    (c' := (tgt c e : Thread nD τ)) (src := aM) (dst := pT (rev e)) (q := aq e) (fs := amv m c)
    (r₁ := 0) (r₂ := 0) (d₁ := 0) (d₂ := 0) (fd := fd)
    (by rw [duties_dma]; exact Finset.mem_singleton_self _) (by rw [duties_dma]; exact Finset.mem_singleton_self _)
    () () NA rfl (amount_dma m c 2 e 0) (amount_dma m (tgt c e) 3 (rev e) 0) O hO (W := W)
    (by rw [payload_dma]; exact BI.Entails.refl _)
    (by
      rw [payload_dma]
      show _ ⊢ PHas m (tgt c e) (rev e)
      unfold PHas
      rw [tgt_rev]
      exact held_write (tgt c e : Thread nD τ) fd _)) $$ [Ht Hr Ht' Hv Hd Hr' HO]
  · isplitr; · iapply (ctx_inv m κ); iexact HC
    isplitr; · iapply (ctx_inv m κ); iexact HC
    isplitl [Hv]; · iexact Hv
    isplitl [Hd]; · rw [set_squeeze (tgt c e : Thread nD τ)]; iexact Hd
    isplitl [HO]; · iexact HO
    isplitl [Ht]; · iexact Ht
    isplitl [Hr]; · iexact Hr
    isplitl [Ht']; · iexact Ht'
    iexact Hr'
  iintro ⟨Hc, HO⟩
  iapply Hk $$ [HO]
  · isplitr; · iexact HC
    iexists _; iexact HO
  unfold Tok
  isplitl [Hc]; · iexact Hc
  iexact Ha

end Cert.KernelIdealProof

end
-- ==== Proof.KernelIdeal.Blocks.lean ====
/-
The kernel at its buffers, and its two recurring runs of operations: a tile of `w` narrowed, a tile of the output
multiplied up.
-/
module

public import proofs.«01_k».proof.Proof.KernelIdeal.Moves

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the kernel at the kernel's buffers and semaphores. -/
abbrev app {β : Sort*} (f : (arg0 : Memref sig .tc .hbm S4096x1024 .bf16) → arg0.IsWhole → (arg1 : Memref sig .tc .hbm S4096x8192 .f32) → arg1.IsWhole → (arg2 : Memref sig .tc .vmem S1024x8192 .f32) → arg2.IsWhole → (arg3 : Memref sig .tc .vmem S4x1024x1024 .bf16) → arg3.IsWhole → (arg4 : Memref sig .tc .vmem S2x1024x1024 .f32) → arg4.IsWhole → (arg5 : Memref sig .tc .vmem S2x1024x1024 .bf16) → arg5.IsWhole → (arg6 : Memref sig .tc .vmem S8x128 .f32) → arg6.IsWhole → (arg7 : Memref sig .tc .vmem S3x8x128 .f32) → arg7.IsWhole → (arg8 : DmaSems sig S3) → (arg9 : DmaSems sig S3) → (arg10 : DmaSems sig S3) → (arg11 : DmaSems sig S3) → (arg12 : DmaSems sig S_) → (arg13 : DmaSems sig S2) → β) : β :=
  f (Memref.whole main_v1) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10

variable (κ : Dev nD × CI → ℕ) (c : Dev nD)
variable {α : Type} {Q : α → sProp (MT nD τ sig Unit (Elt F) ℕ UU ℕ)}

/-- Slot `q` of the blocks of `x`, slot `j` of the narrowed tiles of `w`, tile `n` of the output, each reading `v`. -/
abbrev XB (q : Fin 4) (v : Vec F S1x1024x1024 .bf16) : sProp 𝕄 := Held (c : Thread nD τ) xM (xR q) v
abbrev HB (j : Fin 2) (v : Vec F S1x1024x1024 .bf16) : sProp 𝕄 := Held (c : Thread nD τ) hM (bR j) v
abbrev OT (n : Fin 8) (v : Vec F S1024x1024 .f32) : sProp 𝕄 := Held (c : Thread nD τ) oM (oR n) v
abbrev HAny (j : Fin 2) : sProp 𝕄 := Any (c : Thread nD τ) hM (bR j)
abbrev OAny (n : Fin 8) : sProp 𝕄 := Any (c : Thread nD τ) oM (oR n)

/-- A store to a slot, what is stored named. -/
theorem wp_set {s : Shape} {e : EltTy} {M : Memref sig .tc .vmem s e} {r : Rect s} {v : r.shape.Idx → Elt F e} (w' : r.shape.Idx → Elt F e)
    {w : r.shape.Idx → Elt F e} (hw : w = w') {hx : (M.access r).Stores Finset.univ}
    {hm : (Finset.univ : Finset r.shape.Idx) = Finset.univ ∨ ∀ a, r.stride a = 1}
    {k : PUnit → Prog (TpuEff nD τ sig (Elt F) Λ₀ .tc) α} :
    (Held (c : Thread nD τ) M r v : sProp 𝕄) ⊢ iprop((Held (c : Thread nD τ) M r w' -∗ wpc c (k ⟨⟩) Q)
      -∗ wpc c (.op (.store M r w Finset.univ hx hm) k) Q) := by
  subst hw; exact wp_storeHeld 𝒱₀ (c : Thread nD τ)
theorem wp_setAny {s : Shape} {e : EltTy} {M : Memref sig .tc .vmem s e} {r : Rect s} (w' : r.shape.Idx → Elt F e)
    {w : r.shape.Idx → Elt F e} (hw : w = w') {hx : (M.access r).Stores Finset.univ}
    {hm : (Finset.univ : Finset r.shape.Idx) = Finset.univ ∨ ∀ a, r.stride a = 1}
    {k : PUnit → Prog (TpuEff nD τ sig (Elt F) Λ₀ .tc) α} :
    (Any (c : Thread nD τ) M r : sProp 𝕄) ⊢ iprop((Held (c : Thread nD τ) M r w' -∗ wpc c (k ⟨⟩) Q)
      -∗ wpc c (.op (.store M r w Finset.univ hx hm) k) Q) := by
  subst hw; exact wp_storeAny 𝒱₀ (c : Thread nD τ)
/-- A load of a slot. -/
theorem wp_get {s : Shape} {e : EltTy} {M : Memref sig .tc .vmem s e} (r : Rect s) {v : r.shape.Idx → Elt F e} {hl : M.view.LoadsAt r.toLoadRect}
    {k : (r.shape.Idx → Elt F e) → Prog (TpuEff nD τ sig (Elt F) Λ₀ .tc) α} :
    (Held (c : Thread nD τ) M r v : sProp 𝕄) ⊢ iprop((Held (c : Thread nD τ) M r v -∗ wpc c (k v) Q)
      -∗ wpc c (.op (.load M r.toLoadRect hl) k) Q) :=
  wp_loadHeld 𝒱₀ (c : Thread nD τ)
theorem wp_getAny {s : Shape} {e : EltTy} {M : Memref sig .tc .vmem s e} (r : Rect s) {hl : M.view.LoadsAt r.toLoadRect}
    {k : (r.shape.Idx → Elt F e) → Prog (TpuEff nD τ sig (Elt F) Λ₀ .tc) α} :
    (Any (c : Thread nD τ) M r : sProp 𝕄) ⊢ iprop((∀ v, Any (c : Thread nD τ) M r -∗ wpc c (k v) Q)
      -∗ wpc c (.op (.load M r.toLoadRect hl) k) Q) :=
  wp_loadAny 𝒱₀ (c : Thread nD τ)

theorem above0 : Above 0 (OA c) := above_mono (by decide) (above_OA c)

/-- The wait for a tile of `w`, and the tile narrowed. -/
theorem wp_narrow (j : Fin 2) (p : ℕ) (n : Fin 8) {u : Vec F S1x1024x1024 .bf16} {g : Vec F S1x1024x1024 .f32 → Vec F S1x1024x1024 .bf16}
    (hg : g (wt m c p n) = wb m c p n) {s' : Shape} {sp' : Space}
    {srcw : Memref sig .tc sp' s' .f32} {hsrc : srcw.view.WordExact} {hdst : (bT j).view.WordExact}
    {hl : (bM).view.LoadsAt (bR j).toLoadRect} {hl' : (hM).view.LoadsAt (bR j).toLoadRect} {hx : ((hM).access (bR j)).Stores Finset.univ}
    {hm : (Finset.univ : Finset (bR j).shape.Idx) = Finset.univ ∨ ∀ a, (bR j).stride a = 1}
    {k : PUnit → Prog (TpuEff nD τ sig (Elt F) Λ₀ .tc) α} :
    Ow m κ c (OA c) ⊢ iprop(WFly m c j p n -∗ HB c j u -∗ (Ow m κ c (OA c) -∗ WHas m c j p n -∗ HB c j (wb m c p n) -∗ wpc c (k ⟨⟩) Q)
      -∗ wpc c (.op (.waitDma2 (wSem j) srcw (bT j) hsrc hdst) fun _ => .op (.load bM (bR j).toLoadRect hl) fun v =>
          .op (.load hM (bR j).toLoadRect hl') fun _ => .op (.store hM (bR j) (g v) Finset.univ hx hm) k) Q) := by
  iintro HO HW HH Hk
  iapply (wp_waitW m κ c (above0 c) j p n) $$ HO HW; iintro HO HW
  iapply (wp_loadW m c j p n) $$ HW; iintro HW
  iapply (wp_get c (bR j)) $$ HH; iintro HH
  iapply (wp_set c (wb m c p n) hg) $$ HH; iintro HH
  iapply Hk $$ HO HW HH

/-- A tile of the output multiplied up for the first time. -/
theorem wp_gemm0 (q : Fin 4) (j : Fin 2) (n : Fin 8) {x w : Vec F S1x1024x1024 .bf16} (y : Vec F S1024x1024 .f32)
    {g : Vec F S1x1024x1024 .bf16 → Vec F S1x1024x1024 .bf16 → Vec F S1024x1024 .f32} (hg : g x w = y)
    {hl : (xM).view.LoadsAt (xR q).toLoadRect} {hl' : (hM).view.LoadsAt (bR j).toLoadRect} {hl'' : (oM).view.LoadsAt (oR n).toLoadRect}
    {hx : ((oM).access (oR n)).Stores Finset.univ} {hm : (Finset.univ : Finset (oR n).shape.Idx) = Finset.univ ∨ ∀ a, (oR n).stride a = 1}
    {k : PUnit → Prog (TpuEff nD τ sig (Elt F) Λ₀ .tc) α} :
    XB c q x ⊢ iprop(HB c j w -∗ OAny c n -∗ (XB c q x -∗ HB c j w -∗ OT c n y -∗ wpc c (k ⟨⟩) Q)
      -∗ wpc c (.op (.load xM (xR q).toLoadRect hl) fun a => .op (.load hM (bR j).toLoadRect hl') fun b =>
          .op (.load oM (oR n).toLoadRect hl'') fun _ => .op (.store oM (oR n) (g a b) Finset.univ hx hm) k) Q) := by
  iintro HX HH HA Hk
  iapply (wp_get c (xR q)) $$ HX; iintro HX
  iapply (wp_get c (bR j)) $$ HH; iintro HH
  iapply (wp_getAny c (oR n)) $$ HA; iintro %v HA
  iapply (wp_setAny c y hg) $$ HA; iintro HA
  iapply Hk $$ HX HH HA

/-- A tile of the output added to. -/
theorem wp_gemm (q : Fin 4) (j : Fin 2) (n : Fin 8) {x w : Vec F S1x1024x1024 .bf16} {a : Vec F S1024x1024 .f32} (y : Vec F S1024x1024 .f32)
    {g : Vec F S1x1024x1024 .bf16 → Vec F S1x1024x1024 .bf16 → Vec F S1024x1024 .f32 → Vec F S1024x1024 .f32} (hg : g x w a = y)
    {hl : (xM).view.LoadsAt (xR q).toLoadRect} {hl' : (hM).view.LoadsAt (bR j).toLoadRect}
    {hl'' hl3 : (oM).view.LoadsAt (oR n).toLoadRect}
    {hx : ((oM).access (oR n)).Stores Finset.univ} {hm : (Finset.univ : Finset (oR n).shape.Idx) = Finset.univ ∨ ∀ a, (oR n).stride a = 1}
    {k : Vec F S1x1024x1024 .bf16 → Vec F S1x1024x1024 .bf16 → Vec F S1024x1024 .f32 → Prog (TpuEff nD τ sig (Elt F) Λ₀ .tc) α} :
    XB c q x ⊢ iprop(HB c j w -∗ OT c n a -∗ (XB c q x -∗ HB c j w -∗ OT c n y -∗ wpc c (k x w a) Q)
      -∗ wpc c (.op (.load xM (xR q).toLoadRect hl) fun x' => .op (.load hM (bR j).toLoadRect hl') fun w' =>
          .op (.load oM (oR n).toLoadRect hl'') fun a' => .op (.load oM (oR n).toLoadRect hl3) fun _ =>
          .op (.store oM (oR n) (g x' w' a') Finset.univ hx hm) fun _ => k x' w' a') Q) := by
  iintro HX HH HA Hk
  iapply (wp_get c (xR q)) $$ HX; iintro HX
  iapply (wp_get c (bR j)) $$ HH; iintro HH
  iapply (wp_get c (oR n)) $$ HA; iintro HA
  iapply (wp_get c (oR n)) $$ HA; iintro HA
  iapply (wp_set c y hg) $$ HA; iintro HA
  iapply Hk $$ HX HH HA

end Cert.KernelIdealProof

end
-- ==== Proof.KernelIdeal.PartsA.lean ====
/-
The body's parts up to the end of the first pass: what each takes and gives back.
-/
module

public import proofs.«01_k».proof.Proof.KernelIdeal.Blocks

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (κ : Dev nD × CI → ℕ) (c : Dev nD)
variable {α : Type} {Q : α → sProp (MT nD τ sig Unit (Elt F) ℕ UU ℕ)}

/-- Part 3: the device's own block of rows and the first two tiles of `w` sent for, the first awaited. -/
theorem part3 (v2 : BitVec 32) {k : (Σ' (v57 : BitVec 32) (v59 : BitVec 32) (v61 : BitVec 32), FVec F S1024x1024 .bf16) → Prog (TpuEff nD τ sig (Elt F) Λ₀ .tc) α} :
    Ow m κ c (OA c) ⊢ iprop(VSh m c none -∗ Any (c : Thread nD τ) xM (xR 3) -∗ semVal ((c : Thread nD τ), .dma ownS) 0 -∗ WIdle m c 0 -∗ WIdle m c 1
      -∗ (∀ a, ∀ b, ∀ d, Ow m κ c (OA c) -∗ OFly m c -∗ WHas m c 0 0 0 -∗ WFly m c 1 0 1 -∗ wpc c (k ⟨a, b, d, k0_pay1 (wt m c 0 0)⟩) Q)
      -∗ wpc c (app k0_part3 c v2 >>= k) Q) := by
  unfold app
  rw [k0_part3_eq_skeleton]; unfold k0_part3_skel
  simp only [Prog.lift, Prog.bind_op, Prog.bind_ret, Prog.pure_eq_ret]
  iintro HO HV HX HS HW0 HW1 Hk
  iapply (wp_issueOwn m c (k0_off2_eq c)) $$ HV HX HS; iintro HX
  iapply (wp_issueW m c 0 0 0 (k0_off3_eq c)) $$ HW0; iintro HW0
  iapply (wp_issueW m c 1 0 1 (k0_off4_eq c)) $$ HW1; iintro HW1
  iapply (wp_waitW m κ c (above0 c) 0 0 0) $$ HO HW0; iintro HO HW0
  iapply (wp_loadW m c 0 0 0) $$ HW0; iintro HW0
  iapply Hk $$ HO HX HW0 HW1

/-- Part 4: the first two tiles narrowed, the device's own block awaited. -/
theorem part4 (v2 : BitVec 32) {k : PUnit → Prog (TpuEff nD τ sig (Elt F) Λ₀ .tc) α} :
    Ow m κ c (OA c) ⊢ iprop(WHas m c 0 0 0 -∗ HAny c 0 -∗ OFly m c -∗ WFly m c 1 0 1 -∗ HAny c 1
      -∗ (Ow m κ c (OA c) -∗ WFly m c 0 0 2 -∗ WHas m c 1 0 1 -∗ XB c 3 (xv m c 0) -∗ semVal ((c : Thread nD τ), .dma ownS) 0 -∗ HB c 0 (wb m c 0 0) -∗ HB c 1 (wb m c 0 1) -∗ wpc c (k ⟨⟩) Q)
      -∗ wpc c (app k0_part4 c v2 (k0_pay1 (wt m c 0 0)) >>= k) Q) := by
  unfold app
  rw [k0_part4_eq_skeleton]; unfold k0_part4_skel
  simp only [Prog.lift, Prog.bind_op, Prog.bind_ret, Prog.pure_eq_ret]
  iintro HO HW0 HH0 HX HW1 HH1 Hk
  iapply (wp_getAny c (bR 0)) $$ HH0; iintro %v HH0
  iapply (wp_setAny c (M := hM) (r := bR 0) (wb m c 0 0) rfl) $$ HH0; iintro HH0
  iapply (wp_reissueW m c 0 0 0 0 2 (k0_off5_eq c)) $$ HW0; iintro HW0
  iapply (wp_waitO m κ c (above0 c)) $$ HO HX; iintro HO HX HS
  iapply (wp_waitW m κ c (above0 c) 1 0 1) $$ HO HW1; iintro HO HW1
  iapply (wp_loadW m c 1 0 1) $$ HW1; iintro HW1
  iapply (wp_getAny c (bR 1)) $$ HH1; iintro %v HH1
  iapply (wp_setAny c (M := hM) (r := bR 1) (wb m c 0 1) rfl) $$ HH1; iintro HH1
  iapply Hk $$ HO HW0 HW1 HX HS HH0 HH1

/-- Part 5: the first tile of the output multiplied up. -/
theorem part5 (v2 : BitVec 32) {k : PUnit → Prog (TpuEff nD τ sig (Elt F) Λ₀ .tc) α} :
    Ow m κ c (OA c) ⊢ iprop(WHas m c 1 0 1 -∗ WFly m c 0 0 2 -∗ XB c 3 (xv m c 0) -∗ HB c 0 (wb m c 0 0) -∗ OAny c 0
      -∗ (Ow m κ c (OA c) -∗ WFly m c 1 0 3 -∗ WFly m c 0 0 4 -∗ XB c 3 (xv m c 0) -∗ HB c 0 (wb m c 0 2) -∗ OT c 0 (A0 m c 0) -∗ wpc c (k ⟨⟩) Q)
      -∗ wpc c (app k0_part5 c v2 >>= k) Q) := by
  unfold app
  rw [k0_part5_eq_skeleton]; unfold k0_part5_skel
  simp only [Prog.lift, Prog.bind_op, Prog.bind_ret, Prog.pure_eq_ret]
  iintro HO HW1 HW0 HX HH0 HA Hk
  iapply (wp_reissueW m c 1 0 1 0 3 (k0_off6_eq c)) $$ HW1; iintro HW1
  iapply (wp_gemm0 c 3 0 0 (A0 m c 0) rfl) $$ HX HH0 HA; iintro HX HH0 HA
  iapply (wp_narrow m κ c 0 0 2 rfl) $$ HO HW0 HH0; iintro HO HW0 HH0
  iapply (wp_reissueW m c 0 0 2 0 4 (k0_off7_eq c)) $$ HW0; iintro HW0
  iapply Hk $$ HO HW1 HW0 HX HH0 HA

/-- Part 6: the second. -/
theorem part6 (v2 : BitVec 32) {k : FVec F S1024x1024 .bf16 → Prog (TpuEff nD τ sig (Elt F) Λ₀ .tc) α} :
    Ow m κ c (OA c) ⊢ iprop(WFly m c 1 0 3 -∗ XB c 3 (xv m c 0) -∗ HB c 1 (wb m c 0 1) -∗ OAny c 1
      -∗ (Ow m κ c (OA c) -∗ WFly m c 1 0 5 -∗ XB c 3 (xv m c 0) -∗ HB c 1 (wb m c 0 3) -∗ OT c 1 (A0 m c 1) -∗ wpc c (k (k0_pay8 (xv m c 0))) Q)
      -∗ wpc c (app k0_part6 c v2 >>= k) Q) := by
  unfold app
  rw [k0_part6_eq_skeleton]; unfold k0_part6_skel
  simp only [Prog.lift, Prog.bind_op, Prog.bind_ret, Prog.pure_eq_ret]
  iintro HO HW1 HX HH1 HA Hk
  iapply (wp_gemm0 c 3 1 1 (A0 m c 1) rfl) $$ HX HH1 HA; iintro HX HH1 HA
  iapply (wp_narrow m κ c 1 0 3 rfl) $$ HO HW1 HH1; iintro HO HW1 HH1
  iapply (wp_reissueW m c 1 0 3 0 5 (k0_off8_eq c)) $$ HW1; iintro HW1
  iapply (wp_get c (xR 3)) $$ HX; iintro HX
  iapply Hk $$ HO HW1 HX HH1 HA

/-- Part 7: the third. -/
theorem part7 (v2 : BitVec 32) {k : FVec F S1024x1024 .f32 → Prog (TpuEff nD τ sig (Elt F) Λ₀ .tc) α} :
    Ow m κ c (OA c) ⊢ iprop(WFly m c 0 0 4 -∗ XB c 3 (xv m c 0) -∗ HB c 0 (wb m c 0 2) -∗ HB c 1 (wb m c 0 3) -∗ OAny c 2
      -∗ (Ow m κ c (OA c) -∗ WFly m c 0 0 6 -∗ XB c 3 (xv m c 0) -∗ HB c 0 (wb m c 0 4) -∗ HB c 1 (wb m c 0 3) -∗ OT c 2 (A0 m c 2) -∗ wpc c (k (k0_pay11 (xv m c 0) (wb m c 0 3))) Q)
      -∗ wpc c (app k0_part7 c v2 (k0_pay8 (xv m c 0)) >>= k) Q) := by
  unfold app
  rw [k0_part7_eq_skeleton]; unfold k0_part7_skel
  simp only [Prog.lift, Prog.bind_op, Prog.bind_ret, Prog.pure_eq_ret]
  iintro HO HW0 HX HH0 HH1 HA Hk
  iapply (wp_get c (bR 0)) $$ HH0; iintro HH0
  iapply (wp_getAny c (oR 2)) $$ HA; iintro %v HA
  iapply (wp_setAny c (M := oM) (r := oR 2) (A0 m c 2) rfl) $$ HA; iintro HA
  iapply (wp_narrow m κ c 0 0 4 rfl) $$ HO HW0 HH0; iintro HO HW0 HH0
  iapply (wp_reissueW m c 0 0 4 0 6 (k0_off9_eq c)) $$ HW0; iintro HW0
  iapply (wp_get c (xR 3)) $$ HX; iintro HX
  iapply (wp_get c (bR 1)) $$ HH1; iintro HH1
  iapply Hk $$ HO HW0 HX HH0 HH1 HA

/-- Part 8: the fourth and the fifth. -/
theorem part8 (v2 : BitVec 32) {k : PUnit → Prog (TpuEff nD τ sig (Elt F) Λ₀ .tc) α} :
    Ow m κ c (OA c) ⊢ iprop(WFly m c 1 0 5 -∗ XB c 3 (xv m c 0) -∗ HB c 0 (wb m c 0 4) -∗ HB c 1 (wb m c 0 3) -∗ OAny c 3 -∗ OAny c 4
      -∗ (Ow m κ c (OA c) -∗ WFly m c 1 0 7 -∗ XB c 3 (xv m c 0) -∗ HB c 0 (wb m c 0 4) -∗ HB c 1 (wb m c 0 5) -∗ OT c 3 (A0 m c 3) -∗ OT c 4 (A0 m c 4) -∗ wpc c (k ⟨⟩) Q)
      -∗ wpc c (app k0_part8 c v2 (k0_pay11 (xv m c 0) (wb m c 0 3)) >>= k) Q) := by
  unfold app
  rw [k0_part8_eq_skeleton]; unfold k0_part8_skel
  simp only [Prog.lift, Prog.bind_op, Prog.bind_ret, Prog.pure_eq_ret]
  iintro HO HW1 HX HH0 HH1 HB HA Hk
  iapply (wp_getAny c (oR 3)) $$ HB; iintro %v HB
  iapply (wp_setAny c (M := oM) (r := oR 3) (A0 m c 3) rfl) $$ HB; iintro HB
  iapply (wp_narrow m κ c 1 0 5 rfl) $$ HO HW1 HH1; iintro HO HW1 HH1
  iapply (wp_reissueW m c 1 0 5 0 7 (k0_off10_eq c)) $$ HW1; iintro HW1
  iapply (wp_gemm0 c 3 0 4 (A0 m c 4) rfl) $$ HX HH0 HA; iintro HX HH0 HA
  iapply Hk $$ HO HW1 HX HH0 HH1 HB HA

/-- Part 9: the sixth. -/
theorem part9 (v57 : BitVec 32) {k : PUnit → Prog (TpuEff nD τ sig (Elt F) Λ₀ .tc) α} :
    Ow m κ c (OA c) ⊢ iprop(WFly m c 0 0 6 -∗ XB c 3 (xv m c 0) -∗ HB c 0 (wb m c 0 4) -∗ HB c 1 (wb m c 0 5) -∗ OAny c 5
      -∗ (Ow m κ c (OA c) -∗ WFly m c 0 1 0 -∗ XB c 3 (xv m c 0) -∗ HB c 0 (wb m c 0 6) -∗ HB c 1 (wb m c 0 5) -∗ OT c 5 (A0 m c 5) -∗ wpc c (k ⟨⟩) Q)
      -∗ wpc c (app k0_part9 c v57 >>= k) Q) := by
  unfold app
  rw [k0_part9_eq_skeleton]; unfold k0_part9_skel
  simp only [Prog.lift, Prog.bind_op, Prog.bind_ret, Prog.pure_eq_ret]
  iintro HO HW0 HX HH0 HH1 HA Hk
  iapply (wp_narrow m κ c 0 0 6 rfl) $$ HO HW0 HH0; iintro HO HW0 HH0
  iapply (wp_reissueW m c 0 0 6 1 0 (k0_off11_eq c 0)) $$ HW0; iintro HW0
  iapply (wp_gemm0 c 3 1 5 (A0 m c 5) rfl) $$ HX HH1 HA; iintro HX HH1 HA
  iapply Hk $$ HO HW0 HX HH0 HH1 HA

/-- Part 10: the seventh. -/
theorem part10 (v57 : BitVec 32) {k : Vec F S1x1024x1024 .f32 → Prog (TpuEff nD τ sig (Elt F) Λ₀ .tc) α} :
    Ow m κ c (OA c) ⊢ iprop(WFly m c 0 1 0 -∗ WFly m c 1 0 7 -∗ XB c 3 (xv m c 0) -∗ HB c 0 (wb m c 0 6) -∗ HB c 1 (wb m c 0 5) -∗ OAny c 6
      -∗ (Ow m κ c (OA c) -∗ WHas m c 0 1 0 -∗ WFly m c 1 1 1 -∗ XB c 3 (xv m c 0) -∗ HB c 0 (wb m c 0 6) -∗ HB c 1 (wb m c 0 7) -∗ OT c 6 (A0 m c 6) -∗ wpc c (k (wt m c 1 0)) Q)
      -∗ wpc c (app k0_part10 c v57 >>= k) Q) := by
  unfold app
  rw [k0_part10_eq_skeleton]; unfold k0_part10_skel
  simp only [Prog.lift, Prog.bind_op, Prog.bind_ret, Prog.pure_eq_ret]
  iintro HO HW0 HW1 HX HH0 HH1 HA Hk
  iapply (wp_narrow m κ c 1 0 7 rfl) $$ HO HW1 HH1; iintro HO HW1 HH1
  iapply (wp_reissueW m c 1 0 7 1 1 (k0_off12_eq c 0)) $$ HW1; iintro HW1
  iapply (wp_gemm0 c 3 0 6 (A0 m c 6) rfl) $$ HX HH0 HA; iintro HX HH0 HA
  iapply (wp_waitW m κ c (above0 c) 0 1 0) $$ HO HW0; iintro HO HW0
  iapply (wp_loadW m c 0 1 0) $$ HW0; iintro HW0
  iapply Hk $$ HO HW0 HW1 HX HH0 HH1 HA

/-- Part 11: the last of the first pass. -/
theorem part11 (v57 : BitVec 32) {k : (Σ' (v285 : FVec F S1024x1024 .bf16), Vec F S1x1024x1024 .bf16) → Prog (TpuEff nD τ sig (Elt F) Λ₀ .tc) α} :
    Ow m κ c (OA c) ⊢ iprop(WHas m c 0 1 0 -∗ WFly m c 1 1 1 -∗ XB c 3 (xv m c 0) -∗ HB c 0 (wb m c 0 6) -∗ HB c 1 (wb m c 0 7) -∗ OAny c 7
      -∗ (Ow m κ c (OA c) -∗ WFly m c 0 1 2 -∗ WHas m c 1 1 1 -∗ XB c 3 (xv m c 0) -∗ HB c 0 (wb m c 1 0) -∗ HB c 1 (wb m c 0 7) -∗ OT c 7 (A0 m c 7) -∗ wpc c (k ⟨k0_pay20 (wt m c 1 1), wb m c 0 7⟩) Q)
      -∗ wpc c (app k0_part11 c v57 (wt m c 1 0) >>= k) Q) := by
  unfold app
  rw [k0_part11_eq_skeleton]; unfold k0_part11_skel
  simp only [Prog.lift, Prog.bind_op, Prog.bind_ret, Prog.pure_eq_ret]
  iintro HO HW0 HW1 HX HH0 HH1 HA Hk
  iapply (wp_get c (bR 0)) $$ HH0; iintro HH0
  iapply (wp_set c (M := hM) (r := bR 0) (wb m c 1 0) rfl) $$ HH0; iintro HH0
  iapply (wp_reissueW m c 0 1 0 1 2 (k0_off13_eq c 0)) $$ HW0; iintro HW0
  iapply (wp_gemm0 c 3 1 7 (A0 m c 7) rfl) $$ HX HH1 HA; iintro HX HH1 HA
  iapply (wp_waitW m κ c (above0 c) 1 1 1) $$ HO HW1; iintro HO HW1
  iapply (wp_loadW m c 1 1 1) $$ HW1; iintro HW1
  iapply (wp_get c (bR 1)) $$ HH1; iintro HH1
  iapply Hk $$ HO HW0 HW1 HX HH0 HH1 HA

end Cert.KernelIdealProof

end
-- ==== Proof.KernelIdeal.PartsB.lean ====
/-
The body's second and third passes, part by part.
-/
module

public import proofs.«01_k».proof.Proof.KernelIdeal.Blocks

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (κ : Dev nD × CI → ℕ) (c : Dev nD)
variable {α : Type} {Q : α → sProp (MT nD τ sig Unit (Elt F) ℕ UU ℕ)}

/-- Part 12: the first received block awaited; the second pass begins. -/
theorem part12 (v2 : BitVec 32) (v57 : BitVec 32) (z : Vec F S1x1024x1024 .bf16) {k : PUnit → Prog (TpuEff nD τ sig (Elt F) Λ₀ .tc) α} :
    Ow m κ c (OA c) ⊢ iprop(WHas m c 1 1 1 -∗ Tok c 1 0 -∗ HB c 0 (wb m c 1 0) -∗ HB c 1 (wb m c 0 7) -∗ OT c 0 (A0 m c 0)
      -∗ (Ow m κ c (OA c) -∗ WFly m c 1 1 3 -∗ semVal (cell c (some (1, 0))) 0 -∗ XB c 0 (xv m c 1) -∗ HB c 0 (wb m c 1 0) -∗ HB c 1 (wb m c 1 1) -∗ OT c 0 (A1 m c 0) -∗ wpc c (k ⟨⟩) Q)
      -∗ wpc c (app k0_part12 c v2 v57 (k0_pay20 (wt m c 1 1)) z >>= k) Q) := by
  unfold app
  rw [k0_part12_eq_skeleton]; unfold k0_part12_skel
  simp only [Prog.lift, Prog.bind_op, Prog.bind_ret, Prog.pure_eq_ret]
  iintro HO HW1 HT HH0 HH1 HA Hk
  iapply (wp_set c (M := hM) (r := bR 1) (wb m c 1 1) rfl) $$ HH1; iintro HH1
  iapply (wp_reissueW m c 1 1 1 1 3 (k0_off14_eq c 0)) $$ HW1; iintro HW1
  iapply (wp_waitC m κ c 1 0 (dstw := xT 0) (by decide) (above_OA c) rfl) $$ HO HT; iintro HO HS HX
  ihave HX := (show pay m c 1 0 ⊢ XB c 0 (xv m c 1) from .rfl) $$ HX
  iapply (wp_gemm c 0 0 0 (A1 m c 0) rfl) $$ HX HH0 HA; iintro HX HH0 HA
  iapply Hk $$ HO HW1 HS HX HH0 HH1 HA

/-- Part 13: the second pass at tile 1. -/
theorem part13 (v57 : BitVec 32) {k : PUnit → Prog (TpuEff nD τ sig (Elt F) Λ₀ .tc) α} :
    Ow m κ c (OA c) ⊢ iprop(WFly m c 0 1 2 -∗ XB c 0 (xv m c 1) -∗ HB c 0 (wb m c 1 0) -∗ HB c 1 (wb m c 1 1) -∗ OT c 1 (A0 m c 1)
      -∗ (Ow m κ c (OA c) -∗ WFly m c 0 1 4 -∗ XB c 0 (xv m c 1) -∗ HB c 0 (wb m c 1 2) -∗ HB c 1 (wb m c 1 1) -∗ OT c 1 (A1 m c 1) -∗ wpc c (k ⟨⟩) Q)
      -∗ wpc c (app k0_part13 c v57 >>= k) Q) := by
  unfold app
  rw [k0_part13_eq_skeleton]; unfold k0_part13_skel
  simp only [Prog.lift, Prog.bind_op, Prog.bind_ret, Prog.pure_eq_ret]
  iintro HO HW0 HX HH0 HH1 HA Hk
  iapply (wp_narrow m κ c 0 1 2 rfl) $$ HO HW0 HH0; iintro HO HW0 HH0
  iapply (wp_reissueW m c 0 1 2 1 4 (k0_off15_eq c 0)) $$ HW0; iintro HW0
  iapply (wp_gemm c 0 1 1 (A1 m c 1) rfl) $$ HX HH1 HA; iintro HX HH1 HA
  iapply Hk $$ HO HW0 HX HH0 HH1 HA

/-- Part 14: the second pass at tile 2. -/
theorem part14 (v57 : BitVec 32) {k : PUnit → Prog (TpuEff nD τ sig (Elt F) Λ₀ .tc) α} :
    Ow m κ c (OA c) ⊢ iprop(WFly m c 1 1 3 -∗ XB c 0 (xv m c 1) -∗ HB c 1 (wb m c 1 1) -∗ HB c 0 (wb m c 1 2) -∗ OT c 2 (A0 m c 2)
      -∗ (Ow m κ c (OA c) -∗ WFly m c 1 1 5 -∗ XB c 0 (xv m c 1) -∗ HB c 1 (wb m c 1 3) -∗ HB c 0 (wb m c 1 2) -∗ OT c 2 (A1 m c 2) -∗ wpc c (k ⟨⟩) Q)
      -∗ wpc c (app k0_part14 c v57 >>= k) Q) := by
  unfold app
  rw [k0_part14_eq_skeleton]; unfold k0_part14_skel
  simp only [Prog.lift, Prog.bind_op, Prog.bind_ret, Prog.pure_eq_ret]
  iintro HO HW1 HX HH1 HH0 HA Hk
  iapply (wp_narrow m κ c 1 1 3 rfl) $$ HO HW1 HH1; iintro HO HW1 HH1
  iapply (wp_reissueW m c 1 1 3 1 5 (k0_off16_eq c 0)) $$ HW1; iintro HW1
  iapply (wp_gemm c 0 0 2 (A1 m c 2) rfl) $$ HX HH0 HA; iintro HX HH0 HA
  iapply Hk $$ HO HW1 HX HH1 HH0 HA

/-- Part 15: the second pass at tile 3. -/
theorem part15 (v57 : BitVec 32) {k : PUnit → Prog (TpuEff nD τ sig (Elt F) Λ₀ .tc) α} :
    Ow m κ c (OA c) ⊢ iprop(WFly m c 0 1 4 -∗ XB c 0 (xv m c 1) -∗ HB c 0 (wb m c 1 2) -∗ HB c 1 (wb m c 1 3) -∗ OT c 3 (A0 m c 3)
      -∗ (Ow m κ c (OA c) -∗ WFly m c 0 1 6 -∗ XB c 0 (xv m c 1) -∗ HB c 0 (wb m c 1 4) -∗ HB c 1 (wb m c 1 3) -∗ OT c 3 (A1 m c 3) -∗ wpc c (k ⟨⟩) Q)
      -∗ wpc c (app k0_part15 c v57 >>= k) Q) := by
  unfold app
  rw [k0_part15_eq_skeleton]; unfold k0_part15_skel
  simp only [Prog.lift, Prog.bind_op, Prog.bind_ret, Prog.pure_eq_ret]
  iintro HO HW0 HX HH0 HH1 HA Hk
  iapply (wp_narrow m κ c 0 1 4 rfl) $$ HO HW0 HH0; iintro HO HW0 HH0
  iapply (wp_reissueW m c 0 1 4 1 6 (k0_off17_eq c 0)) $$ HW0; iintro HW0
  iapply (wp_gemm c 0 1 3 (A1 m c 3) rfl) $$ HX HH1 HA; iintro HX HH1 HA
  iapply Hk $$ HO HW0 HX HH0 HH1 HA

/-- Part 16: the second pass at tile 4. -/
theorem part16 (v57 : BitVec 32) {k : PUnit → Prog (TpuEff nD τ sig (Elt F) Λ₀ .tc) α} :
    Ow m κ c (OA c) ⊢ iprop(WFly m c 1 1 5 -∗ XB c 0 (xv m c 1) -∗ HB c 1 (wb m c 1 3) -∗ HB c 0 (wb m c 1 4) -∗ OT c 4 (A0 m c 4)
      -∗ (Ow m κ c (OA c) -∗ WFly m c 1 1 7 -∗ XB c 0 (xv m c 1) -∗ HB c 1 (wb m c 1 5) -∗ HB c 0 (wb m c 1 4) -∗ OT c 4 (A1 m c 4) -∗ wpc c (k ⟨⟩) Q)
      -∗ wpc c (app k0_part16 c v57 >>= k) Q) := by
  unfold app
  rw [k0_part16_eq_skeleton]; unfold k0_part16_skel
  simp only [Prog.lift, Prog.bind_op, Prog.bind_ret, Prog.pure_eq_ret]
  iintro HO HW1 HX HH1 HH0 HA Hk
  iapply (wp_narrow m κ c 1 1 5 rfl) $$ HO HW1 HH1; iintro HO HW1 HH1
  iapply (wp_reissueW m c 1 1 5 1 7 (k0_off18_eq c 0)) $$ HW1; iintro HW1
  iapply (wp_gemm c 0 0 4 (A1 m c 4) rfl) $$ HX HH0 HA; iintro HX HH0 HA
  iapply Hk $$ HO HW1 HX HH1 HH0 HA

/-- Part 17: the second pass at tile 5. -/
theorem part17 (v59 : BitVec 32) {k : PUnit → Prog (TpuEff nD τ sig (Elt F) Λ₀ .tc) α} :
    Ow m κ c (OA c) ⊢ iprop(WFly m c 0 1 6 -∗ XB c 0 (xv m c 1) -∗ HB c 0 (wb m c 1 4) -∗ HB c 1 (wb m c 1 5) -∗ OT c 5 (A0 m c 5)
      -∗ (Ow m κ c (OA c) -∗ WFly m c 0 2 0 -∗ XB c 0 (xv m c 1) -∗ HB c 0 (wb m c 1 6) -∗ HB c 1 (wb m c 1 5) -∗ OT c 5 (A1 m c 5) -∗ wpc c (k ⟨⟩) Q)
      -∗ wpc c (app k0_part17 c v59 >>= k) Q) := by
  unfold app
  rw [k0_part17_eq_skeleton]; unfold k0_part17_skel
  simp only [Prog.lift, Prog.bind_op, Prog.bind_ret, Prog.pure_eq_ret]
  iintro HO HW0 HX HH0 HH1 HA Hk
  iapply (wp_narrow m κ c 0 1 6 rfl) $$ HO HW0 HH0; iintro HO HW0 HH0
  iapply (wp_reissueW m c 0 1 6 2 0 (k0_off11_eq c 2)) $$ HW0; iintro HW0
  iapply (wp_gemm c 0 1 5 (A1 m c 5) rfl) $$ HX HH1 HA; iintro HX HH1 HA
  iapply Hk $$ HO HW0 HX HH0 HH1 HA

/-- Part 18: the second pass at tile 6. -/
theorem part18 (v59 : BitVec 32) {k : PUnit → Prog (TpuEff nD τ sig (Elt F) Λ₀ .tc) α} :
    Ow m κ c (OA c) ⊢ iprop(WFly m c 1 1 7 -∗ XB c 0 (xv m c 1) -∗ HB c 1 (wb m c 1 5) -∗ HB c 0 (wb m c 1 6) -∗ OT c 6 (A0 m c 6)
      -∗ (Ow m κ c (OA c) -∗ WFly m c 1 2 1 -∗ XB c 0 (xv m c 1) -∗ HB c 1 (wb m c 1 7) -∗ HB c 0 (wb m c 1 6) -∗ OT c 6 (A1 m c 6) -∗ wpc c (k ⟨⟩) Q)
      -∗ wpc c (app k0_part18 c v59 >>= k) Q) := by
  unfold app
  rw [k0_part18_eq_skeleton]; unfold k0_part18_skel
  simp only [Prog.lift, Prog.bind_op, Prog.bind_ret, Prog.pure_eq_ret]
  iintro HO HW1 HX HH1 HH0 HA Hk
  iapply (wp_narrow m κ c 1 1 7 rfl) $$ HO HW1 HH1; iintro HO HW1 HH1
  iapply (wp_reissueW m c 1 1 7 2 1 (k0_off12_eq c 2)) $$ HW1; iintro HW1
  iapply (wp_gemm c 0 0 6 (A1 m c 6) rfl) $$ HX HH0 HA; iintro HX HH0 HA
  iapply Hk $$ HO HW1 HX HH1 HH0 HA

/-- Part 19: the second pass at tile 7. -/
theorem part19 (v59 : BitVec 32) {k : PUnit → Prog (TpuEff nD τ sig (Elt F) Λ₀ .tc) α} :
    Ow m κ c (OA c) ⊢ iprop(WFly m c 0 2 0 -∗ XB c 0 (xv m c 1) -∗ HB c 0 (wb m c 1 6) -∗ HB c 1 (wb m c 1 7) -∗ OT c 7 (A0 m c 7)
      -∗ (Ow m κ c (OA c) -∗ WFly m c 0 2 2 -∗ XB c 0 (xv m c 1) -∗ HB c 0 (wb m c 2 0) -∗ HB c 1 (wb m c 1 7) -∗ OT c 7 (A1 m c 7) -∗ wpc c (k ⟨⟩) Q)
      -∗ wpc c (app k0_part19 c v59 >>= k) Q) := by
  unfold app
  rw [k0_part19_eq_skeleton]; unfold k0_part19_skel
  simp only [Prog.lift, Prog.bind_op, Prog.bind_ret, Prog.pure_eq_ret]
  iintro HO HW0 HX HH0 HH1 HA Hk
  iapply (wp_narrow m κ c 0 2 0 rfl) $$ HO HW0 HH0; iintro HO HW0 HH0
  iapply (wp_reissueW m c 0 2 0 2 2 (k0_off13_eq c 2)) $$ HW0; iintro HW0
  iapply (wp_gemm c 0 1 7 (A1 m c 7) rfl) $$ HX HH1 HA; iintro HX HH1 HA
  iapply Hk $$ HO HW0 HX HH0 HH1 HA

/-- Part 20: the second received block awaited. -/
theorem part20 (v2 : BitVec 32) (v59 : BitVec 32) {k : FVec F S1024x1024 .f32 → Prog (TpuEff nD τ sig (Elt F) Λ₀ .tc) α} :
    Ow m κ c (OA c) ⊢ iprop(WFly m c 1 2 1 -∗ Tok c 1 2 -∗ HB c 0 (wb m c 2 0) -∗ HB c 1 (wb m c 1 7)
      -∗ (Ow m κ c (OA c) -∗ WFly m c 1 2 3 -∗ semVal (cell c (some (1, 2))) 0 -∗ XB c 2 (xv m c 2) -∗ HB c 0 (wb m c 2 0) -∗ HB c 1 (wb m c 2 1) -∗ wpc c (k (k0_pay38 (xv m c 2) (wb m c 2 0))) Q)
      -∗ wpc c (app k0_part20 c v2 v59 >>= k) Q) := by
  unfold app
  rw [k0_part20_eq_skeleton]; unfold k0_part20_skel
  simp only [Prog.lift, Prog.bind_op, Prog.bind_ret, Prog.pure_eq_ret]
  iintro HO HW1 HT HH0 HH1 Hk
  iapply (wp_narrow m κ c 1 2 1 rfl) $$ HO HW1 HH1; iintro HO HW1 HH1
  iapply (wp_reissueW m c 1 2 1 2 3 (k0_off14_eq c 2)) $$ HW1; iintro HW1
  iapply (wp_waitC m κ c 1 2 (dstw := xT 2) (by decide) (above_OA c) rfl) $$ HO HT; iintro HO HS HX
  ihave HX := (show pay m c 1 2 ⊢ XB c 2 (xv m c 2) from .rfl) $$ HX
  iapply (wp_get c (xR 2)) $$ HX; iintro HX
  iapply (wp_get c (bR 0)) $$ HH0; iintro HH0
  iapply Hk $$ HO HW1 HS HX HH0 HH1

/-- Part 21: the third pass stored at tile 0, its tile 1 begun. -/
theorem part21 (v59 : BitVec 32) {k : (Σ' (v549 : FVec F S1024x1024 .f32), Vec F S1024x1024 .f32) → Prog (TpuEff nD τ sig (Elt F) Λ₀ .tc) α} :
    Ow m κ c (OA c) ⊢ iprop(WFly m c 0 2 2 -∗ XB c 2 (xv m c 2) -∗ HB c 0 (wb m c 2 0) -∗ HB c 1 (wb m c 2 1) -∗ OT c 0 (A1 m c 0) -∗ OT c 1 (A1 m c 1)
      -∗ (Ow m κ c (OA c) -∗ WFly m c 0 2 4 -∗ XB c 2 (xv m c 2) -∗ HB c 0 (wb m c 2 2) -∗ HB c 1 (wb m c 2 1) -∗ OT c 0 (A2 m c 0) -∗ OT c 1 (A1 m c 1) -∗ wpc c (k ⟨k0_pay41 (xv m c 2) (wb m c 2 1), A1 m c 1⟩) Q)
      -∗ wpc c (app k0_part21 c v59 (k0_pay38 (xv m c 2) (wb m c 2 0)) >>= k) Q) := by
  unfold app
  rw [k0_part21_eq_skeleton]; unfold k0_part21_skel
  simp only [Prog.lift, Prog.bind_op, Prog.bind_ret, Prog.pure_eq_ret]
  iintro HO HW0 HX HH0 HH1 HB HA Hk
  iapply (wp_get c (oR 0)) $$ HB; iintro HB
  iapply (wp_get c (oR 0)) $$ HB; iintro HB
  iapply (wp_set c (M := oM) (r := oR 0) (A2 m c 0) rfl) $$ HB; iintro HB
  iapply (wp_narrow m κ c 0 2 2 rfl) $$ HO HW0 HH0; iintro HO HW0 HH0
  iapply (wp_reissueW m c 0 2 2 2 4 (k0_off15_eq c 2)) $$ HW0; iintro HW0
  iapply (wp_get c (xR 2)) $$ HX; iintro HX
  iapply (wp_get c (bR 1)) $$ HH1; iintro HH1
  iapply (wp_get c (oR 1)) $$ HA; iintro HA
  iapply Hk $$ HO HW0 HX HH0 HH1 HB HA

/-- Part 22: the third pass stored at tile 1, its tile 2 begun. -/
theorem part22 (v59 : BitVec 32) {k : (Σ' (v575 : FVec F S1024x1024 .f32), FVec F S1024x1024 .f32) → Prog (TpuEff nD τ sig (Elt F) Λ₀ .tc) α} :
    Ow m κ c (OA c) ⊢ iprop(WFly m c 1 2 3 -∗ XB c 2 (xv m c 2) -∗ HB c 1 (wb m c 2 1) -∗ HB c 0 (wb m c 2 2) -∗ OT c 1 (A1 m c 1) -∗ OT c 2 (A1 m c 2)
      -∗ (Ow m κ c (OA c) -∗ WFly m c 1 2 5 -∗ XB c 2 (xv m c 2) -∗ HB c 1 (wb m c 2 3) -∗ HB c 0 (wb m c 2 2) -∗ OT c 1 (A2 m c 1) -∗ OT c 2 (A1 m c 2) -∗ wpc c (k ⟨k0_pay44 (xv m c 2) (wb m c 2 2), k0_pay45 (A1 m c 2)⟩) Q)
      -∗ wpc c (app k0_part22 c v59 (k0_pay41 (xv m c 2) (wb m c 2 1)) (A1 m c 1) >>= k) Q) := by
  unfold app
  rw [k0_part22_eq_skeleton]; unfold k0_part22_skel
  simp only [Prog.lift, Prog.bind_op, Prog.bind_ret, Prog.pure_eq_ret]
  iintro HO HW1 HX HH1 HH0 HB HA Hk
  iapply (wp_get c (oR 1)) $$ HB; iintro HB
  iapply (wp_set c (M := oM) (r := oR 1) (A2 m c 1) rfl) $$ HB; iintro HB
  iapply (wp_narrow m κ c 1 2 3 rfl) $$ HO HW1 HH1; iintro HO HW1 HH1
  iapply (wp_reissueW m c 1 2 3 2 5 (k0_off16_eq c 2)) $$ HW1; iintro HW1
  iapply (wp_get c (xR 2)) $$ HX; iintro HX
  iapply (wp_get c (bR 0)) $$ HH0; iintro HH0
  iapply (wp_get c (oR 2)) $$ HA; iintro HA
  iapply Hk $$ HO HW1 HX HH1 HH0 HB HA

/-- Part 23: the third pass stored at tile 2, its tile 3 begun. -/
theorem part23 (v59 : BitVec 32) {k : FVec F S1024x1024 .f32 → Prog (TpuEff nD τ sig (Elt F) Λ₀ .tc) α} :
    Ow m κ c (OA c) ⊢ iprop(WFly m c 0 2 4 -∗ XB c 2 (xv m c 2) -∗ HB c 0 (wb m c 2 2) -∗ HB c 1 (wb m c 2 3) -∗ OT c 2 (A1 m c 2) -∗ OT c 3 (A1 m c 3)
      -∗ (Ow m κ c (OA c) -∗ WFly m c 0 2 6 -∗ XB c 2 (xv m c 2) -∗ HB c 0 (wb m c 2 4) -∗ HB c 1 (wb m c 2 3) -∗ OT c 2 (A2 m c 2) -∗ OT c 3 (A1 m c 3) -∗ wpc c (k (k0_pay48 (xv m c 2) (wb m c 2 3) (A1 m c 3))) Q)
      -∗ wpc c (app k0_part23 c v59 (k0_pay44 (xv m c 2) (wb m c 2 2)) (k0_pay45 (A1 m c 2)) >>= k) Q) := by
  unfold app
  rw [k0_part23_eq_skeleton]; unfold k0_part23_skel
  simp only [Prog.lift, Prog.bind_op, Prog.bind_ret, Prog.pure_eq_ret]
  iintro HO HW0 HX HH0 HH1 HB HA Hk
  iapply (wp_get c (oR 2)) $$ HB; iintro HB
  iapply (wp_set c (M := oM) (r := oR 2) (A2 m c 2) rfl) $$ HB; iintro HB
  iapply (wp_narrow m κ c 0 2 4 rfl) $$ HO HW0 HH0; iintro HO HW0 HH0
  iapply (wp_reissueW m c 0 2 4 2 6 (k0_off17_eq c 2)) $$ HW0; iintro HW0
  iapply (wp_get c (xR 2)) $$ HX; iintro HX
  iapply (wp_get c (bR 1)) $$ HH1; iintro HH1
  iapply (wp_get c (oR 3)) $$ HA; iintro HA
  iapply Hk $$ HO HW0 HX HH0 HH1 HB HA

/-- Part 24: the third pass stored at tile 3, its tile 4 begun. -/
theorem part24 (v59 : BitVec 32) {k : FVec F S1024x1024 .f32 → Prog (TpuEff nD τ sig (Elt F) Λ₀ .tc) α} :
    Ow m κ c (OA c) ⊢ iprop(WFly m c 1 2 5 -∗ XB c 2 (xv m c 2) -∗ HB c 1 (wb m c 2 3) -∗ HB c 0 (wb m c 2 4) -∗ OT c 3 (A1 m c 3) -∗ OT c 4 (A1 m c 4)
      -∗ (Ow m κ c (OA c) -∗ WFly m c 1 2 7 -∗ XB c 2 (xv m c 2) -∗ HB c 1 (wb m c 2 5) -∗ HB c 0 (wb m c 2 4) -∗ OT c 3 (A2 m c 3) -∗ OT c 4 (A1 m c 4) -∗ wpc c (k (k0_pay50 (xv m c 2) (wb m c 2 4) (A1 m c 4))) Q)
      -∗ wpc c (app k0_part24 c v59 (k0_pay48 (xv m c 2) (wb m c 2 3) (A1 m c 3)) >>= k) Q) := by
  unfold app
  rw [k0_part24_eq_skeleton]; unfold k0_part24_skel
  simp only [Prog.lift, Prog.bind_op, Prog.bind_ret, Prog.pure_eq_ret]
  iintro HO HW1 HX HH1 HH0 HB HA Hk
  iapply (wp_get c (oR 3)) $$ HB; iintro HB
  iapply (wp_set c (M := oM) (r := oR 3) (A2 m c 3) rfl) $$ HB; iintro HB
  iapply (wp_narrow m κ c 1 2 5 rfl) $$ HO HW1 HH1; iintro HO HW1 HH1
  iapply (wp_reissueW m c 1 2 5 2 7 (k0_off18_eq c 2)) $$ HW1; iintro HW1
  iapply (wp_get c (xR 2)) $$ HX; iintro HX
  iapply (wp_get c (bR 0)) $$ HH0; iintro HH0
  iapply (wp_get c (oR 4)) $$ HA; iintro HA
  iapply Hk $$ HO HW1 HX HH1 HH0 HB HA

/-- Part 25: the third pass stored at tile 4, its tile 5 begun. -/
theorem part25 (v61 : BitVec 32) {k : FVec F S1024x1024 .f32 → Prog (TpuEff nD τ sig (Elt F) Λ₀ .tc) α} :
    Ow m κ c (OA c) ⊢ iprop(WFly m c 0 2 6 -∗ XB c 2 (xv m c 2) -∗ HB c 0 (wb m c 2 4) -∗ HB c 1 (wb m c 2 5) -∗ OT c 4 (A1 m c 4) -∗ OT c 5 (A1 m c 5)
      -∗ (Ow m κ c (OA c) -∗ WFly m c 0 3 0 -∗ XB c 2 (xv m c 2) -∗ HB c 0 (wb m c 2 6) -∗ HB c 1 (wb m c 2 5) -∗ OT c 4 (A2 m c 4) -∗ OT c 5 (A1 m c 5) -∗ wpc c (k (k0_pay52 (xv m c 2) (wb m c 2 5) (A1 m c 5))) Q)
      -∗ wpc c (app k0_part25 c v61 (k0_pay50 (xv m c 2) (wb m c 2 4) (A1 m c 4)) >>= k) Q) := by
  unfold app
  rw [k0_part25_eq_skeleton]; unfold k0_part25_skel
  simp only [Prog.lift, Prog.bind_op, Prog.bind_ret, Prog.pure_eq_ret]
  iintro HO HW0 HX HH0 HH1 HB HA Hk
  iapply (wp_get c (oR 4)) $$ HB; iintro HB
  iapply (wp_set c (M := oM) (r := oR 4) (A2 m c 4) rfl) $$ HB; iintro HB
  iapply (wp_narrow m κ c 0 2 6 rfl) $$ HO HW0 HH0; iintro HO HW0 HH0
  iapply (wp_reissueW m c 0 2 6 3 0 (k0_off11_eq c 1)) $$ HW0; iintro HW0
  iapply (wp_get c (xR 2)) $$ HX; iintro HX
  iapply (wp_get c (bR 1)) $$ HH1; iintro HH1
  iapply (wp_get c (oR 5)) $$ HA; iintro HA
  iapply Hk $$ HO HW0 HX HH0 HH1 HB HA

/-- Part 26: the third pass stored at tile 5, its tile 6 begun. -/
theorem part26 (v61 : BitVec 32) {k : FVec F S1024x1024 .f32 → Prog (TpuEff nD τ sig (Elt F) Λ₀ .tc) α} :
    Ow m κ c (OA c) ⊢ iprop(WFly m c 1 2 7 -∗ XB c 2 (xv m c 2) -∗ HB c 1 (wb m c 2 5) -∗ HB c 0 (wb m c 2 6) -∗ OT c 5 (A1 m c 5) -∗ OT c 6 (A1 m c 6)
      -∗ (Ow m κ c (OA c) -∗ WFly m c 1 3 1 -∗ XB c 2 (xv m c 2) -∗ HB c 1 (wb m c 2 7) -∗ HB c 0 (wb m c 2 6) -∗ OT c 5 (A2 m c 5) -∗ OT c 6 (A1 m c 6) -∗ wpc c (k (k0_pay54 (xv m c 2) (wb m c 2 6) (A1 m c 6))) Q)
      -∗ wpc c (app k0_part26 c v61 (k0_pay52 (xv m c 2) (wb m c 2 5) (A1 m c 5)) >>= k) Q) := by
  unfold app
  rw [k0_part26_eq_skeleton]; unfold k0_part26_skel
  simp only [Prog.lift, Prog.bind_op, Prog.bind_ret, Prog.pure_eq_ret]
  iintro HO HW1 HX HH1 HH0 HB HA Hk
  iapply (wp_get c (oR 5)) $$ HB; iintro HB
  iapply (wp_set c (M := oM) (r := oR 5) (A2 m c 5) rfl) $$ HB; iintro HB
  iapply (wp_narrow m κ c 1 2 7 rfl) $$ HO HW1 HH1; iintro HO HW1 HH1
  iapply (wp_reissueW m c 1 2 7 3 1 (k0_off12_eq c 1)) $$ HW1; iintro HW1
  iapply (wp_get c (xR 2)) $$ HX; iintro HX
  iapply (wp_get c (bR 0)) $$ HH0; iintro HH0
  iapply (wp_get c (oR 6)) $$ HA; iintro HA
  iapply (wp_get c (oR 6)) $$ HA; iintro HA
  iapply Hk $$ HO HW1 HX HH1 HH0 HB HA

/-- Part 27: the third pass ends. -/
theorem part27 (v61 : BitVec 32) {k : PUnit → Prog (TpuEff nD τ sig (Elt F) Λ₀ .tc) α} :
    Ow m κ c (OA c) ⊢ iprop(WFly m c 0 3 0 -∗ XB c 2 (xv m c 2) -∗ HB c 0 (wb m c 2 6) -∗ HB c 1 (wb m c 2 7) -∗ OT c 6 (A1 m c 6) -∗ OT c 7 (A1 m c 7)
      -∗ (Ow m κ c (OA c) -∗ WFly m c 0 3 2 -∗ XB c 2 (xv m c 2) -∗ HB c 0 (wb m c 3 0) -∗ HB c 1 (wb m c 2 7) -∗ OT c 6 (A2 m c 6) -∗ OT c 7 (A2 m c 7) -∗ wpc c (k ⟨⟩) Q)
      -∗ wpc c (app k0_part27 c v61 (k0_pay54 (xv m c 2) (wb m c 2 6) (A1 m c 6)) >>= k) Q) := by
  unfold app
  rw [k0_part27_eq_skeleton]; unfold k0_part27_skel
  simp only [Prog.lift, Prog.bind_op, Prog.bind_ret, Prog.pure_eq_ret]
  iintro HO HW0 HX HH0 HH1 HB HA Hk
  iapply (wp_set c (M := oM) (r := oR 6) (A2 m c 6) rfl) $$ HB; iintro HB
  iapply (wp_narrow m κ c 0 3 0 rfl) $$ HO HW0 HH0; iintro HO HW0 HH0
  iapply (wp_reissueW m c 0 3 0 3 2 (k0_off13_eq c 1)) $$ HW0; iintro HW0
  iapply (wp_gemm c 2 1 7 (A2 m c 7) rfl) $$ HX HH1 HA; iintro HX HH1 HA
  iapply Hk $$ HO HW0 HX HH0 HH1 HB HA

/-- Part 28: the last received block awaited. -/
theorem part28 (v2 : BitVec 32) (v61 : BitVec 32) {k : PUnit → Prog (TpuEff nD τ sig (Elt F) Λ₀ .tc) α} :
    Ow m κ c (OA c) ⊢ iprop(WFly m c 1 3 1 -∗ Tok c 1 1 -∗ HB c 1 (wb m c 2 7)
      -∗ (Ow m κ c (OA c) -∗ WFly m c 1 3 3 -∗ semVal (cell c (some (1, 1))) 0 -∗ XB c 1 (xv m c 3) -∗ HB c 1 (wb m c 3 1) -∗ wpc c (k ⟨⟩) Q)
      -∗ wpc c (app k0_part28 c v2 v61 >>= k) Q) := by
  unfold app
  rw [k0_part28_eq_skeleton]; unfold k0_part28_skel
  simp only [Prog.lift, Prog.bind_op, Prog.bind_ret, Prog.pure_eq_ret]
  iintro HO HW1 HT HH1 Hk
  iapply (wp_narrow m κ c 1 3 1 rfl) $$ HO HW1 HH1; iintro HO HW1 HH1
  iapply (wp_reissueW m c 1 3 1 3 3 (k0_off14_eq c 1)) $$ HW1; iintro HW1
  iapply (wp_waitC m κ c 1 1 (dstw := xT 1) (by decide) (above_OA c) rfl) $$ HO HT; iintro HO HS HX
  ihave HX := (show pay m c 1 1 ⊢ XB c 1 (xv m c 3) from .rfl) $$ HX
  iapply Hk $$ HO HW1 HS HX HH1

end Cert.KernelIdealProof

end
-- ==== Proof.KernelIdeal.PartsC.lean ====
/-
The body's fourth pass, part by part.
-/
module

public import proofs.«01_k».proof.Proof.KernelIdeal.Blocks

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (κ : Dev nD × CI → ℕ) (c : Dev nD)
variable {α : Type} {Q : α → sProp (MT nD τ sig Unit (Elt F) ℕ UU ℕ)}

/-- Part 29: the fourth pass at the first tile, whose greatest entry begins the maximum. -/
theorem part29 (v61 : BitVec 32) {k : (F .f32) → Prog (TpuEff nD τ sig (Elt F) Λ₀ .tc) α} :
    Ow m κ c (OA c) ⊢ iprop(WFly m c 0 3 2 -∗ XB c 1 (xv m c 3) -∗ HB c 0 (wb m c 3 0) -∗ OT c 0 (A2 m c 0)
      -∗ (Ow m κ c (OA c) -∗ WHas m c 0 3 2 -∗ XB c 1 (xv m c 3) -∗ HB c 0 (wb m c 3 2) -∗ OT c 0 (A3 m c 0) -∗ wpc c (k (mx m c 0)) Q)
      -∗ wpc c (app k0_part29 v61 >>= k) Q) := by
  unfold app
  rw [k0_part29_eq_skeleton]; unfold k0_part29_skel
  simp only [Prog.lift, Prog.bind_op, Prog.bind_ret, Prog.pure_eq_ret]
  iintro HO HW0 HX HH0 HA Hk
  iapply (wp_gemm c 1 0 0 (A3 m c 0) rfl) $$ HX HH0 HA; iintro HX HH0 HA
  iapply (wp_narrow m κ c 0 3 2 rfl) $$ HO HW0 HH0; iintro HO HW0 HH0
  iapply Hk $$ HO HW0 HX HH0 HA

/-- Part 30: the fourth pass at the second tile. -/
theorem part30 {k : (Σ' (v783 : F .f32), FVec F S1x1024x1024 .bf16) → Prog (TpuEff nD τ sig (Elt F) Λ₀ .tc) α} :
    Ow m κ c (OA c) ⊢ iprop(WHas m c 0 3 2 -∗ WFly m c 1 3 3 -∗ XB c 1 (xv m c 3) -∗ HB c 1 (wb m c 3 1) -∗ OT c 1 (A2 m c 1)
      -∗ (Ow m κ c (OA c) -∗ WFly m c 0 3 4 -∗ WHas m c 1 3 3 -∗ XB c 1 (xv m c 3) -∗ HB c 1 (wb m c 3 1) -∗ OT c 1 (A3 m c 1) -∗ wpc c (k ⟨mx m c 1, wb m c 3 3⟩) Q)
      -∗ wpc c (app k0_part30 c (mx m c 0) >>= k) Q) := by
  unfold app
  rw [k0_part30_eq_skeleton]; unfold k0_part30_skel
  simp only [Prog.lift, Prog.bind_op, Prog.bind_ret, Prog.pure_eq_ret]
  iintro HO HW0 HW1 HX HH1 HA Hk
  iapply (wp_reissueW m c 0 3 2 3 4 (k0_off15_eq c 1)) $$ HW0; iintro HW0
  iapply (wp_gemm c 1 1 1 (A3 m c 1) rfl) $$ HX HH1 HA; iintro HX HH1 HA
  iapply (wp_waitW m κ c (above0 c) 1 3 3) $$ HO HW1; iintro HO HW1
  iapply (wp_loadW m c 1 3 3) $$ HW1; iintro HW1
  iapply (wp_get c (bR 1)) $$ HH1; iintro HH1
  iapply Hk $$ HO HW0 HW1 HX HH1 HA

/-- Part 31: the third tile. -/
theorem part31 (v61 : BitVec 32) {k : (Σ' (v816 : F .f32), Vec F S1x1024x1024 .f32) → Prog (TpuEff nD τ sig (Elt F) Λ₀ .tc) α} :
    Ow m κ c (OA c) ⊢ iprop(WFly m c 0 3 4 -∗ WHas m c 1 3 3 -∗ XB c 1 (xv m c 3) -∗ HB c 1 (wb m c 3 1) -∗ HB c 0 (wb m c 3 2) -∗ OT c 2 (A2 m c 2)
      -∗ (Ow m κ c (OA c) -∗ WHas m c 0 3 4 -∗ WFly m c 1 3 5 -∗ XB c 1 (xv m c 3) -∗ HB c 1 (wb m c 3 3) -∗ HB c 0 (wb m c 3 2) -∗ OT c 2 (A3 m c 2) -∗ wpc c (k ⟨mx m c 2, wt m c 3 4⟩) Q)
      -∗ wpc c (app k0_part31 c v61 (mx m c 1) (wb m c 3 3) >>= k) Q) := by
  unfold app
  rw [k0_part31_eq_skeleton]; unfold k0_part31_skel
  simp only [Prog.lift, Prog.bind_op, Prog.bind_ret, Prog.pure_eq_ret]
  iintro HO HW0 HW1 HX HH1 HH0 HA Hk
  iapply (wp_set c (M := hM) (r := bR 1) (wb m c 3 3) rfl) $$ HH1; iintro HH1
  iapply (wp_reissueW m c 1 3 3 3 5 (k0_off16_eq c 1)) $$ HW1; iintro HW1
  iapply (wp_gemm c 1 0 2 (A3 m c 2) rfl) $$ HX HH0 HA; iintro HX HH0 HA
  iapply (wp_waitW m κ c (above0 c) 0 3 4) $$ HO HW0; iintro HO HW0
  iapply (wp_loadW m c 0 3 4) $$ HW0; iintro HW0
  iapply Hk $$ HO HW0 HW1 HX HH1 HH0 HA

/-- Part 32: the fourth. -/
theorem part32 (v61 : BitVec 32) {k : (F .f32) → Prog (TpuEff nD τ sig (Elt F) Λ₀ .tc) α} :
    Ow m κ c (OA c) ⊢ iprop(WHas m c 0 3 4 -∗ XB c 1 (xv m c 3) -∗ HB c 0 (wb m c 3 2) -∗ HB c 1 (wb m c 3 3) -∗ OT c 3 (A2 m c 3)
      -∗ (Ow m κ c (OA c) -∗ WFly m c 0 3 6 -∗ XB c 1 (xv m c 3) -∗ HB c 0 (wb m c 3 4) -∗ HB c 1 (wb m c 3 3) -∗ OT c 3 (A3 m c 3) -∗ wpc c (k (mx m c 3)) Q)
      -∗ wpc c (app k0_part32 c v61 (mx m c 2) (wt m c 3 4) >>= k) Q) := by
  unfold app
  rw [k0_part32_eq_skeleton]; unfold k0_part32_skel
  simp only [Prog.lift, Prog.bind_op, Prog.bind_ret, Prog.pure_eq_ret]
  iintro HO HW0 HX HH0 HH1 HA Hk
  iapply (wp_get c (bR 0)) $$ HH0; iintro HH0
  iapply (wp_set c (M := hM) (r := bR 0) (wb m c 3 4) rfl) $$ HH0; iintro HH0
  iapply (wp_reissueW m c 0 3 4 3 6 (k0_off17_eq c 1)) $$ HW0; iintro HW0
  iapply (wp_gemm c 1 1 3 (A3 m c 3) rfl) $$ HX HH1 HA; iintro HX HH1 HA
  iapply Hk $$ HO HW0 HX HH0 HH1 HA

/-- Part 33: the fifth. -/
theorem part33 (v61 : BitVec 32) {k : (F .f32) → Prog (TpuEff nD τ sig (Elt F) Λ₀ .tc) α} :
    Ow m κ c (OA c) ⊢ iprop(WFly m c 1 3 5 -∗ XB c 1 (xv m c 3) -∗ HB c 1 (wb m c 3 3) -∗ HB c 0 (wb m c 3 4) -∗ OT c 4 (A2 m c 4)
      -∗ (Ow m κ c (OA c) -∗ WFly m c 1 3 7 -∗ XB c 1 (xv m c 3) -∗ HB c 1 (wb m c 3 5) -∗ HB c 0 (wb m c 3 4) -∗ OT c 4 (A3 m c 4) -∗ wpc c (k (mx m c 4)) Q)
      -∗ wpc c (app k0_part33 c v61 (mx m c 3) >>= k) Q) := by
  unfold app
  rw [k0_part33_eq_skeleton]; unfold k0_part33_skel
  simp only [Prog.lift, Prog.bind_op, Prog.bind_ret, Prog.pure_eq_ret]
  iintro HO HW1 HX HH1 HH0 HA Hk
  iapply (wp_narrow m κ c 1 3 5 rfl) $$ HO HW1 HH1; iintro HO HW1 HH1
  iapply (wp_reissueW m c 1 3 5 3 7 (k0_off18_eq c 1)) $$ HW1; iintro HW1
  iapply (wp_gemm c 1 0 4 (A3 m c 4) rfl) $$ HX HH0 HA; iintro HX HH0 HA
  iapply Hk $$ HO HW1 HX HH1 HH0 HA

/-- Part 34: the sixth. -/
theorem part34 {k : (F .f32) → Prog (TpuEff nD τ sig (Elt F) Λ₀ .tc) α} :
    Ow m κ c (OA c) ⊢ iprop(WFly m c 0 3 6 -∗ XB c 1 (xv m c 3) -∗ HB c 0 (wb m c 3 4) -∗ HB c 1 (wb m c 3 5) -∗ OT c 5 (A2 m c 5)
      -∗ (Ow m κ c (OA c) -∗ WHas m c 0 3 6 -∗ XB c 1 (xv m c 3) -∗ HB c 0 (wb m c 3 6) -∗ HB c 1 (wb m c 3 5) -∗ OT c 5 (A3 m c 5) -∗ wpc c (k (mx m c 5)) Q)
      -∗ wpc c (app k0_part34 (mx m c 4) >>= k) Q) := by
  unfold app
  rw [k0_part34_eq_skeleton]; unfold k0_part34_skel
  simp only [Prog.lift, Prog.bind_op, Prog.bind_ret, Prog.pure_eq_ret]
  iintro HO HW0 HX HH0 HH1 HA Hk
  iapply (wp_narrow m κ c 0 3 6 rfl) $$ HO HW0 HH0; iintro HO HW0 HH0
  iapply (wp_gemm c 1 1 5 (A3 m c 5) rfl) $$ HX HH1 HA; iintro HX HH1 HA
  iapply Hk $$ HO HW0 HX HH0 HH1 HA

/-- Part 35: the seventh. -/
theorem part35 {k : (Σ' (v936 : F .f32) (v938 : FVec F S1024x1024 .bf16), FVec F S1024x1024 .bf16) → Prog (TpuEff nD τ sig (Elt F) Λ₀ .tc) α} :
    Ow m κ c (OA c) ⊢ iprop(WFly m c 1 3 7 -∗ XB c 1 (xv m c 3) -∗ HB c 1 (wb m c 3 5) -∗ HB c 0 (wb m c 3 6) -∗ OT c 6 (A2 m c 6)
      -∗ (Ow m κ c (OA c) -∗ WHas m c 1 3 7 -∗ XB c 1 (xv m c 3) -∗ HB c 1 (wb m c 3 7) -∗ HB c 0 (wb m c 3 6) -∗ OT c 6 (A3 m c 6) -∗ wpc c (k ⟨mx m c 6, k0_pay78 (xv m c 3), k0_pay79 (wb m c 3 7)⟩) Q)
      -∗ wpc c (app k0_part35 (mx m c 5) >>= k) Q) := by
  unfold app
  rw [k0_part35_eq_skeleton]; unfold k0_part35_skel
  simp only [Prog.lift, Prog.bind_op, Prog.bind_ret, Prog.pure_eq_ret]
  iintro HO HW1 HX HH1 HH0 HA Hk
  iapply (wp_narrow m κ c 1 3 7 rfl) $$ HO HW1 HH1; iintro HO HW1 HH1
  iapply (wp_gemm c 1 0 6 (A3 m c 6) rfl) $$ HX HH0 HA; iintro HX HH0 HA
  iapply (wp_get c (xR 1)) $$ HX; iintro HX
  iapply (wp_get c (bR 1)) $$ HH1; iintro HH1
  iapply Hk $$ HO HW1 HX HH1 HH0 HA

end Cert.KernelIdealProof

end
-- ==== Proof.KernelIdeal.Buffers.lean ====
/-
The kernel's scratch buffers and output, cut into their slots.
-/
module

public import proofs.«01_k».proof.Proof.KernelIdeal.Blocks
public import proofs.«01_k».proof.Proof.Slots

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Slots along the first axis of a rank-three buffer cut it. -/
theorem cuts_first {K a b : ℕ} (r : Fin K → Rect (⟨3, ![K, a, b]⟩ : Shape))
    (h : ∀ q i, i ∈ (r q).set ↔ (i 0).val = q.val) :
    (∀ q q', q ≠ q' → Disjoint (r q).set (r q').set) ∧ Finset.univ.biUnion (fun q => (r q).set) = Finset.univ := by
  refine ⟨fun q q' hq => Finset.disjoint_left.mpr fun i hi hi' => hq (Fin.ext ?_), Finset.eq_univ_of_forall fun i => ?_⟩
  · rw [← (h q i).mp hi]; exact (h q' i).mp hi'
  · exact Finset.mem_biUnion.mpr ⟨⟨(i 0).val, (i 0).isLt⟩, Finset.mem_univ _, (h _ i).mpr rfl⟩

theorem mem_xR (q : Fin 4) (i : S4x1024x1024.Idx) : i ∈ (xR q).set ↔ (i 0).val = q.val := by
  rw [Rect.mem_set_unit, Fin.forall_fin_succ, Fin.forall_fin_two]
  have h1 := (i 1).isLt; have h2 := (i 2).isLt
  change (q.val ≤ (i 0).val ∧ (i 0).val < q.val + 1) ∧ (0 ≤ (i 1).val ∧ (i 1).val < 0 + 1024) ∧ (0 ≤ (i 2).val ∧ (i 2).val < 0 + 1024) ↔ _
  change (i 1).val < 1024 at h1; change (i 2).val < 1024 at h2
  omega
theorem mem_bR (q : Fin 2) (i : S2x1024x1024.Idx) : i ∈ (bR q).set ↔ (i 0).val = q.val := by
  rw [Rect.mem_set_unit, Fin.forall_fin_succ, Fin.forall_fin_two]
  have h1 := (i 1).isLt; have h2 := (i 2).isLt
  change (q.val ≤ (i 0).val ∧ (i 0).val < q.val + 1) ∧ (0 ≤ (i 1).val ∧ (i 1).val < 0 + 1024) ∧ (0 ≤ (i 2).val ∧ (i 2).val < 0 + 1024) ↔ _
  change (i 1).val < 1024 at h1; change (i 2).val < 1024 at h2
  omega
theorem mem_pR (q : Fin 3) (i : S3x8x128.Idx) : i ∈ (pR q).set ↔ (i 0).val = q.val := by
  rw [Rect.mem_set_unit, Fin.forall_fin_succ, Fin.forall_fin_two]
  have h1 := (i 1).isLt; have h2 := (i 2).isLt
  change (q.val ≤ (i 0).val ∧ (i 0).val < q.val + 1) ∧ (0 ≤ (i 1).val ∧ (i 1).val < 0 + 8) ∧ (0 ≤ (i 2).val ∧ (i 2).val < 0 + 128) ↔ _
  change (i 1).val < 8 at h1; change (i 2).val < 128 at h2
  omega
theorem mem_oR (n : Fin 8) (i : S1024x8192.Idx) : i ∈ (oR n).set ↔ (i 1).val / 1024 = n.val := by
  rw [Rect.mem_set_unit, Fin.forall_fin_two]
  have h0 := (i 0).isLt
  change (0 ≤ (i 0).val ∧ (i 0).val < 0 + 1024) ∧ (1024 * n.val ≤ (i 1).val ∧ (i 1).val < 1024 * n.val + 1024) ↔ _
  change (i 0).val < 1024 at h0
  omega

theorem cuts_x : Cuts xM xR where
  disj q q' h := by rw [slot, slot, View.set_slice_whole, View.set_slice_whole]; exact (cuts_first xR mem_xR).1 q q' h
  cover := by
    have := (cuts_first xR mem_xR).2
    rw [← this]; exact Finset.biUnion_congr rfl fun q _ => View.set_slice_whole _ _
theorem cuts_b : Cuts bM bR where
  disj q q' h := by rw [slot, slot, View.set_slice_whole, View.set_slice_whole]; exact (cuts_first bR mem_bR).1 q q' h
  cover := by
    have := (cuts_first bR mem_bR).2
    rw [← this]; exact Finset.biUnion_congr rfl fun q _ => View.set_slice_whole _ _
theorem cuts_h : Cuts hM bR where
  disj q q' h := by rw [slot, slot, View.set_slice_whole, View.set_slice_whole]; exact (cuts_first bR mem_bR).1 q q' h
  cover := by
    have := (cuts_first bR mem_bR).2
    rw [← this]; exact Finset.biUnion_congr rfl fun q _ => View.set_slice_whole _ _
theorem cuts_p : Cuts pM pR where
  disj q q' h := by rw [slot, slot, View.set_slice_whole, View.set_slice_whole]; exact (cuts_first pR mem_pR).1 q q' h
  cover := by
    have := (cuts_first pR mem_pR).2
    rw [← this]; exact Finset.biUnion_congr rfl fun q _ => View.set_slice_whole _ _
theorem cuts_o : Cuts oM oR where
  disj q q' h := by
    rw [slot, slot, View.set_slice_whole, View.set_slice_whole]
    exact Finset.disjoint_left.mpr fun i hi hi' => h (Fin.ext (((mem_oR q i).mp hi).symm.trans ((mem_oR q' i).mp hi')))
  cover := Finset.eq_univ_of_forall fun i => by
    have h1 : (i 1).val < 8192 := (i 1).isLt
    refine Finset.mem_biUnion.mpr ⟨⟨(i 1).val / 1024, by omega⟩, Finset.mem_univ _, ?_⟩
    rw [slot, View.set_slice_whole]
    exact (mem_oR _ i).mpr rfl

variable (c : Dev nD)

/-! ## The maximum, lent to three copies and got back -/

/-- The whole of the maximum's buffer. -/
abbrev aR : Rect S8x128 := Rect.unit (s := S8x128) ![0, 0] S8x128.size inb_S8x128_S8x128_0_0

theorem set_aR : slot aM aR = Finset.univ := by
  have h0 : (![0, 0] : Fin 2 → ℕ) = fun _ => 0 := by funext a; revert a; decide
  rw [slot, View.set_slice_whole]
  exact Finset.eq_univ_of_forall fun i => Rect.mem_set_unit.mpr fun a =>
    ⟨by rw [h0]; exact Nat.zero_le _, by rw [h0]; exact (Nat.zero_add _).symm ▸ (i a).isLt⟩

theorem aR_any (f : Buf (Elt F) ((aM).view.loc (c : Thread nD τ))) :
    ((aM).view.loc (c : Thread nD τ) ↦[Finset.univ]{fullShare} f : sProp 𝕄) ⊢ Any (c : Thread nD τ) aM aR := by
  unfold Any
  iintro H
  iexists f
  rw [show ((aM).access aR).set = slot aM aR from rfl, set_aR]
  iexact H

theorem am_split : (Held (c : Thread nD τ) aM aR (amv m c) : sProp 𝕄) ⊢ iprop(AmSh m c 0 ∗ AmSh m c 1 ∗ AmSh m c 2) := by
  unfold Held AmSh
  iintro ⟨%f, %hf, H⟩
  have hf' : f = amv m c := by
    rw [← hf]
    exact (Memref.readAt_unit_zero (Elt F) cc0_scratch3 (off := ![0, 0]) (by funext a; revert a; decide) _ f).symm
  subst hf'
  have hs : (aM).view.set = (Finset.univ : Finset (aM).view.ty.Idx) := View.set_whole _
  rw [hs, show ((aM).access aR).set = slot aM aR from rfl, set_aR]
  ihave H := (pointsTo_halves).1 $$ H
  icases H with ⟨H0, H⟩
  ihave H := (pointsTo_halves).1 $$ H
  icases H with ⟨H1, H2⟩
  isplitl [H0]; · iexact H0
  isplitl [H1]; · iexact H1
  iexact H2

theorem am_join : iprop(AmSh m c 0 ∗ AmSh m c 1 ∗ AmSh m c 2)
    ⊢ ((aM).view.loc (c : Thread nD τ) ↦[Finset.univ]{fullShare} amv m c : sProp 𝕄) := by
  have hs : (aM).view.set = (Finset.univ : Finset (aM).view.ty.Idx) := View.set_whole _
  unfold AmSh
  rw [hs]
  iintro ⟨H0, H1, H2⟩
  iapply (pointsTo_halves).2
  isplitl [H0]; · iexact H0
  iapply (pointsTo_halves).2
  isplitl [H1]; · iexact H1
  iexact H2

/-! ## The received maxima, put together -/

/-- The whole of the received maxima. -/
abbrev pW : Rect S3x8x128 := Rect.unit (s := S3x8x128) ![0, 0, 0] S3x8x128.size inb_S3x8x128_S3x8x128_0_0_0

theorem set_pW : slot pM pW = Finset.univ := by
  have h0 : (![0, 0, 0] : Fin 3 → ℕ) = fun _ => 0 := by funext a; revert a; decide
  rw [slot, View.set_slice_whole]
  exact Finset.eq_univ_of_forall fun i => Rect.mem_set_unit.mpr fun a =>
    ⟨by rw [h0]; exact Nat.zero_le _, by rw [h0]; exact (Nat.zero_add _).symm ▸ (i a).isLt⟩

theorem unsq_amv (c : Dev nD) (x : (pR 0).shape.Idx) : unsq squeezes_S1x8x128_S8x128.numel_eq (amv m c) x = mx m c 7 := by
  unfold unsq amv
  rfl

theorem peers_held : iprop(PHas m c 0 ∗ PHas m c 1 ∗ PHas m c 2) ⊢ (Held (c : Thread nD τ) pM pW (peers m c) : sProp 𝕄) := by
  have h1 : iprop(PHas m c 0 ∗ PHas m c 1 ∗ PHas m c 2) ⊢ (bigSep Finset.univ fun e => PHas m c e : sProp 𝕄) :=
    Entails.of_eq (by rw [bigSep_univ_eq_bigSepL [0, 1, 2] (by decide) (by decide), bigSepL_cons_cons, bigSepL_cons_cons, bigSepL_singleton]; rfl)
  refine h1.trans ?_
  unfold PHas
  refine ((cuts_p).joinHeld (c := (c : Thread nD τ)) (m ((pM).view.loc (c : Thread nD τ))) _).trans ?_
  unfold Held
  iintro ⟨%g, %hg, H⟩
  iexists g
  isplitr
  · ipureintro
    refine (Memref.readAt_unit_zero (Elt F) cc0_scratch4 (off := ![0, 0, 0]) (by funext a; revert a; decide) _ g).trans ?_
    funext i
    obtain ⟨x, hx⟩ := View.exists_of_mem_set_slice (v := (pM).view) (r := pR ⟨(i 0).val, (i 0).isLt⟩) (i := i)
      (by rw [View.set_slice_whole]; exact (mem_pR _ i).mpr rfl)
    have h2 := congrFun (hg ⟨(i 0).val, (i 0).isLt⟩) x
    rw [View.read_apply, unsq_amv] at h2
    exact (congrArg g hx).symm.trans h2
  rw [show ((pM).access pW).set = slot pM pW from rfl, set_pW]
  iexact H

theorem pW_whole (v : pW.shape.Idx → Elt F .f32) : (Held (c : Thread nD τ) pM pW v : sProp 𝕄)
    ⊢ iprop(∃ g : Buf (Elt F) ((pM).view.loc (c : Thread nD τ)), (pM).view.loc (c : Thread nD τ) ↦[Finset.univ]{fullShare} g) := by
  unfold Held
  rw [show ((pM).access pW).set = slot pM pW from rfl, set_pW]
  iintro ⟨%f, -, H⟩
  iexists f; iexact H

end Cert.KernelIdealProof

end
-- ==== Proof.KernelIdeal.PartsD.lean ====
/-
The body's exchange and quantisation, part by part.
-/
module

public import proofs.«01_k».proof.Proof.KernelIdeal.Buffers

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What is left of a neighbour's gift once the block is sent: the slot for the maximum. -/
def GivesP (c : Dev nD) (e : Fin 3) : sProp 𝕄 :=
  iprop(PAny (F := F) (tgt c e) (rev e) ∗ reached ER (cell (tgt c e) (some (3, rev e))) 0)

variable (κ : Dev nD × CI → ℕ) (c : Dev nD)
variable {α : Type} {Q : α → sProp (MT nD τ sig Unit (Elt F) ℕ UU ℕ)}

/-- Part 1: the barrier. -/
theorem part1 {k : (Σ' (d0 : Dev nD), BitVec 32) → Prog (TpuEff nD τ sig (Elt F) Λ₀ .tc) α} :
    Ow m κ c (O₀ c) ⊢ iprop(SigT c 0 -∗ SigT c 1 -∗ SigT c 2 -∗ BarT c
      -∗ (∀ b, Ow m κ c (OX c) -∗ semVal (cell c none) 0 -∗ Gives (tgt c 0) (rev 0) -∗ Gives (tgt c 1) (rev 1) -∗ Gives (tgt c 2) (rev 2) -∗ wpc c (k ⟨c, b⟩) Q)
      -∗ wpc c (app k0_part1 >>= k) Q) := by
  unfold app
  rw [k0_part1_eq_skeleton]; unfold k0_part1_skel
  simp only [Prog.lift, Prog.bind_op, Prog.bind_ret, Prog.pure_eq_ret, semSignalWord, semWaitWord, wp_deviceId]
  iintro HO H0 H1 H2 HB Hk
  iapply (wp_sig m κ c 0 (dev1_eq c) (O₀ := O₀ c) (OB2 c) rfl rfl) $$ HO H0; iintro HO
  iapply (wp_sig m κ c 2 (dev2_eq c) (O₀ := OB2 c) (OB1 c) rfl rfl) $$ HO H2; iintro HO
  iapply (wp_sig m κ c 1 (dev3_eq c) (O₀ := OB1 c) (OX c) rfl rfl) $$ HO H1; iintro HO
  iapply (wp_waitBar m κ c (above_OX c) rfl) $$ HO HB; iintro HO HS G0 G1 G2
  iapply Hk $$ HO HS G0 G1 G2

/-- Part 2: the row blocks of `x` sent. -/
theorem part2 (v2 : BitVec 32) {k : PUnit → Prog (TpuEff nD τ sig (Elt F) Λ₀ .tc) α} :
    Ow m κ c (OX c) ⊢ iprop(SendT c 0 1 0 -∗ SendT c 0 1 1 -∗ SendT c 0 1 2 -∗ VSh m c (some 0) -∗ VSh m c (some 1) -∗ VSh m c (some 2) -∗ Gives (tgt c 0) (rev 0) -∗ Gives (tgt c 1) (rev 1) -∗ Gives (tgt c 2) (rev 2)
      -∗ (Ow m κ c (OA c) -∗ Tok c 0 0 -∗ Tok c 0 1 -∗ Tok c 0 2 -∗ GivesP c 0 -∗ GivesP c 1 -∗ GivesP c 2 -∗ wpc c (k ⟨⟩) Q)
      -∗ wpc c (app k0_part2 c v2 >>= k) Q) := by
  unfold app
  rw [k0_part2_eq_skeleton]; unfold k0_part2_skel
  simp only [Prog.lift, Prog.bind_op, Prog.bind_ret, Prog.pure_eq_ret]
  unfold Gives GivesP
  iintro HO T0 T1 T2 V0 V1 V2 ⟨X0, P0, R0, S0⟩ ⟨X1, P1, R1, S1⟩ ⟨X2, P2, R2, S2⟩ Hk
  iapply (wp_sendX m κ c 0 2 rfl (dev4_eq c) (k0_off1_eq c 0) (O₀ := OX c) (OX2 c) rfl) $$ HO T0 V0 X0 R0; iintro HO T0
  iapply (wp_sendX m κ c 2 0 rfl (dev5_eq c) (k0_off1_eq c 2) (O₀ := OX2 c) (OX1 c) rfl) $$ HO T2 V2 X2 R2; iintro HO T2
  iapply (wp_sendX m κ c 1 1 rfl (dev6_eq c) (k0_off1_eq c 1) (O₀ := OX1 c) (OA c) rfl) $$ HO T1 V1 X1 R1; iintro HO T1
  iapply Hk $$ HO T0 T1 T2 [P0 S0] [P1 S1] [P2 S2]
  · isplitl [P0]; · iexact P0
    iexact S0
  · isplitl [P1]; · iexact P1
    iexact S1
  · isplitl [P2]; · iexact P2
    iexact S2

/-- Part 36: the last tile of the fourth pass; the maximum sent once. -/
theorem part36 (v2 : BitVec 32) {k : (F .f32) → Prog (TpuEff nD τ sig (Elt F) Λ₀ .tc) α} :
    Ow m κ c (OA c) ⊢ iprop(OT c 7 (A2 m c 7) -∗ Any (c : Thread nD τ) aM aR -∗ SendT c 2 3 0 -∗ GivesP c 0
      -∗ (Ow m κ c (OA2 c) -∗ OT c 7 (A3 m c 7) -∗ Tok c 2 0 -∗ AmSh m c 1 -∗ AmSh m c 2 -∗ wpc c (k (mx m c 7)) Q)
      -∗ wpc c (app k0_part36 c v2 (mx m c 6) (k0_pay78 (xv m c 3)) (k0_pay79 (wb m c 3 7)) >>= k) Q) := by
  unfold app
  rw [k0_part36_eq_skeleton]; unfold k0_part36_skel
  simp only [Prog.lift, Prog.bind_op, Prog.bind_ret, Prog.pure_eq_ret]
  iintro HO HA HM T0 G0 Hk
  iapply (wp_get c (oR 7)) $$ HA; iintro HA
  iapply (wp_get c (oR 7)) $$ HA; iintro HA
  iapply (wp_set c (M := oM) (r := oR 7) (A3 m c 7) rfl) $$ HA; iintro HA
  iapply (wp_getAny c aR) $$ HM; iintro %v HM
  iapply (wp_setAny c (M := aM) (r := aR) (amv m c) rfl) $$ HM; iintro HM
  ihave HM := (am_split m c) $$ HM
  icases HM with ⟨M0, M1, M2⟩
  unfold GivesP
  icases G0 with ⟨P0, S0⟩
  iapply (wp_sendA m κ c 0 2 rfl (dev7_eq c) (O₀ := OA c) (OA2 c) rfl) $$ HO T0 M0 P0 S0; iintro HO T0
  iapply Hk $$ HO HA T0 M1 M2

/-- Part 37: the maximum sent twice more, two maxima awaited. -/
theorem part37 (v2 : BitVec 32) {k : (BitVec 32) → Prog (TpuEff nD τ sig (Elt F) Λ₀ .tc) α} :
    Ow m κ c (OA2 c) ⊢ iprop(SendT c 2 3 1 -∗ SendT c 2 3 2 -∗ GivesP c 1 -∗ GivesP c 2 -∗ AmSh m c 1 -∗ AmSh m c 2 -∗ Tok c 3 0 -∗ Tok c 3 1
      -∗ (∀ b, Ow m κ c 0 -∗ Tok c 2 1 -∗ Tok c 2 2 -∗ semVal (cell c (some (3, 0))) 0 -∗ semVal (cell c (some (3, 1))) 0 -∗ PHas m c 0 -∗ PHas m c 1 -∗ wpc c (k b) Q)
      -∗ wpc c (app k0_part37 c v2 >>= k) Q) := by
  unfold app
  rw [k0_part37_eq_skeleton]; unfold k0_part37_skel
  simp only [Prog.lift, Prog.bind_op, Prog.bind_ret, Prog.pure_eq_ret]
  unfold GivesP
  iintro HO T1 T2 ⟨P1, S1⟩ ⟨P2, S2⟩ M1 M2 R0 R1 Hk
  iapply (wp_sendA m κ c 2 0 rfl (dev8_eq c) (O₀ := OA2 c) (OA1 c) rfl) $$ HO T2 M2 P2 S2; iintro HO T2
  iapply (wp_sendA m κ c 1 1 rfl (dev9_eq c) (O₀ := OA1 c) 0 rfl) $$ HO T1 M1 P1 S1; iintro HO T1
  iapply (wp_waitC m κ c 3 0 (dstw := pT 0) le_rfl above_zero rfl) $$ HO R0; iintro HO V0 R0
  iapply (wp_waitC m κ c 3 1 (dstw := pT 1) le_rfl above_zero rfl) $$ HO R1; iintro HO V1 R1
  ihave R0 := (show pay m c 3 0 ⊢ PHas m c 0 from .rfl) $$ R0
  ihave R1 := (show pay m c 3 1 ⊢ PHas m c 1 from .rfl) $$ R1
  iapply Hk $$ HO T1 T2 V0 V1 R0 R1

/-- Part 38: the last maximum awaited; the first tiles quantised. -/
theorem part38 (b : BitVec 32) {k : (Σ' (v1011 : F .f32) (v1012 : F .f32) (v1036 : FVec F S1024x1024 .f32), FVec F S1024x1024 .f32) → Prog (TpuEff nD τ sig (Elt F) Λ₀ .tc) α} :
    Ow m κ c 0 ⊢ iprop(Tok c 3 2 -∗ PHas m c 0 -∗ PHas m c 1 -∗ OT c 0 (A3 m c 0) -∗ OT c 1 (A3 m c 1) -∗ OT c 2 (A3 m c 2)
      -∗ (Ow m κ c 0 -∗ semVal (cell c (some (3, 2))) 0 -∗ Held (c : Thread nD τ) pM pW (peers m c) -∗ OT c 0 (A4 m c 0) -∗ OT c 1 (A4 m c 1) -∗ OT c 2 (A3 m c 2) -∗ wpc c (k ⟨k0_pay84 (mx m c 7) (peers m c), k0_pay85 (mx m c 7) (peers m c), k0_pay88 (mx m c 7) (peers m c) (A3 m c 2), k0_pay89 (mx m c 7) (peers m c)⟩) Q)
      -∗ wpc c (app k0_part38 (mx m c 7) b >>= k) Q) := by
  unfold app
  rw [k0_part38_eq_skeleton]; unfold k0_part38_skel
  simp only [Prog.lift, Prog.bind_op, Prog.bind_ret, Prog.pure_eq_ret]
  iintro HO R2 H0 H1 HA HB HD Hk
  iapply (wp_waitC m κ c 3 2 (dstw := pT 2) le_rfl above_zero rfl) $$ HO R2; iintro HO V2 H2
  ihave H2 := (show pay m c 3 2 ⊢ PHas m c 2 from .rfl) $$ H2
  ihave HP := (peers_held m c) $$ [H0 H1 H2]
  · isplitl [H0]; · iexact H0
    isplitl [H1]; · iexact H1
    iexact H2
  iapply (wp_get c pW) $$ HP; iintro HP
  iapply (wp_get c (oR 0)) $$ HA; iintro HA
  iapply (wp_get c (oR 0)) $$ HA; iintro HA
  iapply (wp_set c (M := oM) (r := oR 0) (A4 m c 0) rfl) $$ HA; iintro HA
  iapply (wp_get c (oR 1)) $$ HB; iintro HB
  iapply (wp_get c (oR 1)) $$ HB; iintro HB
  iapply (wp_set c (M := oM) (r := oR 1) (A4 m c 1) rfl) $$ HB; iintro HB
  iapply (wp_get c (oR 2)) $$ HD; iintro HD
  iapply Hk $$ HO V2 HP HA HB HD

/-- Part 39: the next four tiles quantised. -/
theorem part39 {k : FVec F S1024x1024 .f32 → Prog (TpuEff nD τ sig (Elt F) Λ₀ .tc) α} :
    OT c 2 (A3 m c 2) ⊢ iprop(OT c 3 (A3 m c 3) -∗ OT c 4 (A3 m c 4) -∗ OT c 5 (A3 m c 5) -∗ OT c 6 (A3 m c 6)
      -∗ (OT c 2 (A4 m c 2) -∗ OT c 3 (A4 m c 3) -∗ OT c 4 (A4 m c 4) -∗ OT c 5 (A4 m c 5) -∗ OT c 6 (A3 m c 6) -∗ wpc c (k (k0_pay94 (k0_pay84 (mx m c 7) (peers m c)) (k0_pay85 (mx m c 7) (peers m c)) (A3 m c 6))) Q)
      -∗ wpc c (app k0_part39 (k0_pay84 (mx m c 7) (peers m c)) (k0_pay85 (mx m c 7) (peers m c)) (k0_pay88 (mx m c 7) (peers m c) (A3 m c 2)) (k0_pay89 (mx m c 7) (peers m c)) >>= k) Q) := by
  unfold app
  rw [k0_part39_eq_skeleton]; unfold k0_part39_skel
  simp only [Prog.lift, Prog.bind_op, Prog.bind_ret, Prog.pure_eq_ret]
  iintro H2 H3 H4 H5 H6 Hk
  iapply (wp_get c (oR 2)) $$ H2; iintro H2
  iapply (wp_set c (M := oM) (r := oR 2) (A4 m c 2) rfl) $$ H2; iintro H2
  iapply (wp_get c (oR 3)) $$ H3; iintro H3
  iapply (wp_get c (oR 3)) $$ H3; iintro H3
  iapply (wp_set c (M := oM) (r := oR 3) (A4 m c 3) rfl) $$ H3; iintro H3
  iapply (wp_get c (oR 4)) $$ H4; iintro H4
  iapply (wp_get c (oR 4)) $$ H4; iintro H4
  iapply (wp_set c (M := oM) (r := oR 4) (A4 m c 4) rfl) $$ H4; iintro H4
  iapply (wp_get c (oR 5)) $$ H5; iintro H5
  iapply (wp_get c (oR 5)) $$ H5; iintro H5
  iapply (wp_set c (M := oM) (r := oR 5) (A4 m c 5) rfl) $$ H5; iintro H5
  iapply (wp_get c (oR 6)) $$ H6; iintro H6
  iapply (wp_get c (oR 6)) $$ H6; iintro H6
  iapply Hk $$ H2 H3 H4 H5 H6

/-- Part 40: the last tiles quantised; the blocks sent are awaited. -/
theorem part40 {k : PUnit → Prog (TpuEff nD τ sig (Elt F) Λ₀ .tc) α} :
    Ow m κ c 0 ⊢ iprop(OT c 6 (A3 m c 6) -∗ OT c 7 (A3 m c 7) -∗ Tok c 0 0 -∗ Tok c 0 1 -∗ Tok c 0 2
      -∗ (Ow m κ c 0 -∗ OT c 6 (A4 m c 6) -∗ OT c 7 (A4 m c 7) -∗ semVal (cell c (some (0, 0))) 0 -∗ semVal (cell c (some (0, 1))) 0 -∗ semVal (cell c (some (0, 2))) 0 -∗ wpc c (k ⟨⟩) Q)
      -∗ wpc c (app k0_part40 c (k0_pay84 (mx m c 7) (peers m c)) (k0_pay85 (mx m c 7) (peers m c)) (k0_pay94 (k0_pay84 (mx m c 7) (peers m c)) (k0_pay85 (mx m c 7) (peers m c)) (A3 m c 6)) >>= k) Q) := by
  unfold app
  rw [k0_part40_eq_skeleton]; unfold k0_part40_skel
  simp only [Prog.lift, Prog.bind_op, Prog.bind_ret, Prog.pure_eq_ret]
  iintro HO H6 H7 T0 T1 T2 Hk
  iapply (wp_set c (M := oM) (r := oR 6) (A4 m c 6) rfl) $$ H6; iintro H6
  iapply (wp_get c (oR 7)) $$ H7; iintro H7
  iapply (wp_get c (oR 7)) $$ H7; iintro H7
  iapply (wp_set c (M := oM) (r := oR 7) (A4 m c 7) rfl) $$ H7; iintro H7
  iapply (wp_waitC m κ c 0 0 (dstw := (vM).slice (Rect.unit (s := S4096x1024) (k0_off1 c 1#32) S1024x1024.size (k0_off1_inb c 0)) (fun _ => rfl)) le_rfl above_zero rfl) $$ HO T0; iintro HO V0 -
  iapply (wp_waitC m κ c 0 2 (dstw := (vM).slice (Rect.unit (s := S4096x1024) (k0_off1 c 3#32) S1024x1024.size (k0_off1_inb c 2)) (fun _ => rfl)) le_rfl above_zero rfl) $$ HO T2; iintro HO V2 -
  iapply (wp_waitC m κ c 0 1 (dstw := (vM).slice (Rect.unit (s := S4096x1024) (k0_off1 c 2#32) S1024x1024.size (k0_off1_inb c 1)) (fun _ => rfl)) le_rfl above_zero rfl) $$ HO T1; iintro HO V1 -
  iapply Hk $$ HO H6 H7 V0 V1 V2

end Cert.KernelIdealProof

end
-- ==== Proof.KernelIdeal.Body.lean ====
/-
The kernel's body on a device, from what it is started with to what it leaves.
-/
module

public import proofs.«01_k».proof.Proof.KernelIdeal.PartsA
public import proofs.«01_k».proof.Proof.KernelIdeal.PartsB
public import proofs.«01_k».proof.Proof.KernelIdeal.PartsC
public import proofs.«01_k».proof.Proof.KernelIdeal.PartsD

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (κ : Dev nD × CI → ℕ) (c : Dev nD)

/-- What a device runs the body with: its tokens, -/
def Start : sProp 𝕄 :=
  iprop(Ow m κ c (O₀ c) ∗ SigT c 0 ∗ SigT c 1 ∗ SigT c 2 ∗ BarT c
    ∗ SendT c 0 1 0 ∗ SendT c 0 1 1 ∗ SendT c 0 1 2 ∗ SendT c 2 3 0 ∗ SendT c 2 3 1 ∗ SendT c 2 3 2
    ∗ Tok c 1 0 ∗ Tok c 1 1 ∗ Tok c 1 2 ∗ Tok c 3 0 ∗ Tok c 3 1 ∗ Tok c 3 2)
/-- its operands and its buffers, -/
def Bufs : sProp 𝕄 :=
  iprop(VSh m c none ∗ VSh m c (some 0) ∗ VSh m c (some 1) ∗ VSh m c (some 2) ∗ WIdle m c 0 ∗ WIdle m c 1
    ∗ semVal ((c : Thread nD τ), .dma ownS) 0 ∗ Any (c : Thread nD τ) xM (xR 3) ∗ HAny c 0 ∗ HAny c 1 ∗ Any (c : Thread nD τ) aM aR)
/-- and the output. -/
def Out : sProp 𝕄 :=
  iprop(OAny c 0 ∗ OAny c 1 ∗ OAny c 2 ∗ OAny c 3 ∗ OAny c 4 ∗ OAny c 5 ∗ OAny c 6 ∗ OAny c 7)
/-- What it ends with: every semaphore at 0, -/
def EndS : sProp 𝕄 :=
  iprop(Ow m κ c 0 ∗ semVal (cell c none) 0
    ∗ semVal (cell c (some (0, 0))) 0 ∗ semVal (cell c (some (0, 1))) 0 ∗ semVal (cell c (some (0, 2))) 0 ∗ semVal (cell c (some (1, 0))) 0 ∗ semVal (cell c (some (1, 1))) 0 ∗ semVal (cell c (some (1, 2))) 0 ∗ semVal (cell c (some (2, 0))) 0 ∗ semVal (cell c (some (2, 1))) 0 ∗ semVal (cell c (some (2, 2))) 0 ∗ semVal (cell c (some (3, 0))) 0 ∗ semVal (cell c (some (3, 1))) 0 ∗ semVal (cell c (some (3, 2))) 0
    ∗ semVal ((c : Thread nD τ), .dma ownS) 0)
/-- its buffers, -/
def EndB : sProp 𝕄 :=
  iprop(WHas m c 0 3 6 ∗ WHas m c 1 3 7 ∗ XB c 0 (xv m c 1) ∗ XB c 1 (xv m c 3) ∗ XB c 2 (xv m c 2) ∗ XB c 3 (xv m c 0)
    ∗ HB c 0 (wb m c 3 6) ∗ HB c 1 (wb m c 3 7) ∗ Held (c : Thread nD τ) pM pW (peers m c) ∗ AmSh m c 0 ∗ AmSh m c 1 ∗ AmSh m c 2)
/-- and the output's tiles. -/
def EndO : sProp 𝕄 :=
  iprop(OT c 0 (A4 m c 0) ∗ OT c 1 (A4 m c 1) ∗ OT c 2 (A4 m c 2) ∗ OT c 3 (A4 m c 3) ∗ OT c 4 (A4 m c 4) ∗ OT c 5 (A4 m c 5) ∗ OT c 6 (A4 m c 6) ∗ OT c 7 (A4 m c 7))

/-- The body, from what a device starts with to what it leaves. -/
theorem body {Q : PUnit → sProp (MT nD τ sig Unit (Elt F) ℕ UU ℕ)} :
    iprop(Start m κ c ∗ Bufs m c ∗ Out c) ⊢ iprop((EndS m κ c -∗ EndB m c -∗ EndO m c -∗ Q ⟨⟩) -∗ wpc c (app cc0_body) Q) := by
  unfold app
  rw [cc0_body_eq_skeleton]; unfold cc0_body_skel
  simp only [k0_part41_eq_skeleton]; unfold k0_part41_skel
  simp only [Prog.lift, Prog.bind_assoc, Prog.bind_op, Prog.bind_ret, Prog.pure_eq_ret]
  unfold Start Bufs Out EndS EndB EndO
  iintro ⟨⟨HO, T0, T1, T2, HB, D0, D1, D2, E0, E1, E2, C10, C11, C12, C30, C31, C32⟩,
    ⟨VN, V0, V1, V2, W0, W1, SO, X3, H0, H1, HM⟩, ⟨O0, O1, O2, O3, O4, O5, O6, O7⟩⟩ Hk
  iapply (part1 m κ c) $$ HO T0 T1 T2 HB; iintro %b HO HS G0 G1 G2
  iapply (part2 m κ c _) $$ HO D0 D1 D2 V0 V1 V2 G0 G1 G2; iintro HO C00 C01 C02 P0 P1 P2
  iapply (part3 m κ c _) $$ HO VN X3 SO W0 W1; iintro %v57 %v59 %v61 HO FO W0 W1
  iapply (part4 m κ c _) $$ HO W0 H0 FO W1 H1; iintro HO W0 W1 X3 SO H0 H1
  iapply (part5 m κ c _) $$ HO W1 W0 X3 H0 O0; iintro HO W1 W0 X3 H0 O0
  iapply (part6 m κ c _) $$ HO W1 X3 H1 O1; iintro HO W1 X3 H1 O1
  iapply (part7 m κ c _) $$ HO W0 X3 H0 H1 O2; iintro HO W0 X3 H0 H1 O2
  iapply (part8 m κ c _) $$ HO W1 X3 H0 H1 O3 O4; iintro HO W1 X3 H0 H1 O3 O4
  iapply (part9 m κ c _) $$ HO W0 X3 H0 H1 O5; iintro HO W0 X3 H0 H1 O5
  iapply (part10 m κ c _) $$ HO W0 W1 X3 H0 H1 O6; iintro HO W0 W1 X3 H0 H1 O6
  iapply (part11 m κ c _) $$ HO W0 W1 X3 H0 H1 O7; iintro HO W0 W1 X3 H0 H1 O7
  iapply (part12 m κ c _ _ _) $$ HO W1 C10 H0 H1 O0; iintro HO W1 S10 X0 H0 H1 O0
  iapply (part13 m κ c _) $$ HO W0 X0 H0 H1 O1; iintro HO W0 X0 H0 H1 O1
  iapply (part14 m κ c _) $$ HO W1 X0 H1 H0 O2; iintro HO W1 X0 H1 H0 O2
  iapply (part15 m κ c _) $$ HO W0 X0 H0 H1 O3; iintro HO W0 X0 H0 H1 O3
  iapply (part16 m κ c _) $$ HO W1 X0 H1 H0 O4; iintro HO W1 X0 H1 H0 O4
  iapply (part17 m κ c _) $$ HO W0 X0 H0 H1 O5; iintro HO W0 X0 H0 H1 O5
  iapply (part18 m κ c _) $$ HO W1 X0 H1 H0 O6; iintro HO W1 X0 H1 H0 O6
  iapply (part19 m κ c _) $$ HO W0 X0 H0 H1 O7; iintro HO W0 X0 H0 H1 O7
  iapply (part20 m κ c _ _) $$ HO W1 C12 H0 H1; iintro HO W1 S12 X2 H0 H1
  iapply (part21 m κ c _) $$ HO W0 X2 H0 H1 O0 O1; iintro HO W0 X2 H0 H1 O0 O1
  iapply (part22 m κ c _) $$ HO W1 X2 H1 H0 O1 O2; iintro HO W1 X2 H1 H0 O1 O2
  iapply (part23 m κ c _) $$ HO W0 X2 H0 H1 O2 O3; iintro HO W0 X2 H0 H1 O2 O3
  iapply (part24 m κ c _) $$ HO W1 X2 H1 H0 O3 O4; iintro HO W1 X2 H1 H0 O3 O4
  iapply (part25 m κ c _) $$ HO W0 X2 H0 H1 O4 O5; iintro HO W0 X2 H0 H1 O4 O5
  iapply (part26 m κ c _) $$ HO W1 X2 H1 H0 O5 O6; iintro HO W1 X2 H1 H0 O5 O6
  iapply (part27 m κ c _) $$ HO W0 X2 H0 H1 O6 O7; iintro HO W0 X2 H0 H1 O6 O7
  iapply (part28 m κ c _ _) $$ HO W1 C11 H1; iintro HO W1 S11 X1 H1
  iapply (part29 m κ c _) $$ HO W0 X1 H0 O0; iintro HO W0 X1 H0 O0
  iapply (part30 m κ c) $$ HO W0 W1 X1 H1 O1; iintro HO W0 W1 X1 H1 O1
  iapply (part31 m κ c _) $$ HO W0 W1 X1 H1 H0 O2; iintro HO W0 W1 X1 H1 H0 O2
  iapply (part32 m κ c _) $$ HO W0 X1 H0 H1 O3; iintro HO W0 X1 H0 H1 O3
  iapply (part33 m κ c _) $$ HO W1 X1 H1 H0 O4; iintro HO W1 X1 H1 H0 O4
  iapply (part34 m κ c) $$ HO W0 X1 H0 H1 O5; iintro HO W0 X1 H0 H1 O5
  iapply (part35 m κ c) $$ HO W1 X1 H1 H0 O6; iintro HO W1 X1 H1 H0 O6
  iapply (part36 m κ c _) $$ HO O7 HM E0 P0; iintro HO O7 C20 M1 M2
  iapply (part37 m κ c _) $$ HO E1 E2 P1 P2 M1 M2 C30 C31; iintro %v999 HO C21 C22 S30 S31 R0 R1
  iapply (part38 m κ c _) $$ HO C32 R0 R1 O0 O1 O2; iintro HO S32 HP O0 O1 O2
  iapply (part39 m c) $$ O2 O3 O4 O5 O6; iintro O2 O3 O4 O5 O6
  iapply (part40 m κ c) $$ HO O6 O7 C00 C01 C02; iintro HO O6 O7 S00 S01 S02
  iapply (wp_waitC m κ c 2 0 (dstw := aM) le_rfl above_zero rfl) $$ HO C20; iintro HO S20 M0
  ihave M0 := (show pay m c 2 0 ⊢ AmSh m c 0 from .rfl) $$ M0
  iapply (wp_waitC m κ c 2 2 (dstw := aM) le_rfl above_zero rfl) $$ HO C22; iintro HO S22 M2
  ihave M2 := (show pay m c 2 2 ⊢ AmSh m c 2 from .rfl) $$ M2
  iapply (wp_waitC m κ c 2 1 (dstw := aM) le_rfl above_zero rfl) $$ HO C21; iintro HO S21 M1
  ihave M1 := (show pay m c 2 1 ⊢ AmSh m c 1 from .rfl) $$ M1
  simp only [wp_ret]
  imodintro
  iapply Hk $$ [HO HS S00 S01 S02 S10 S11 S12 S20 S21 S22 S30 S31 S32 SO] [W0 W1 X0 X1 X2 X3 H0 H1 HP M0 M1 M2] [O0 O1 O2 O3 O4 O5 O6 O7]
  · isplitl [HO]; · iexact HO
    isplitl [HS]; · iexact HS
    isplitl [S00]; · iexact S00
    isplitl [S01]; · iexact S01
    isplitl [S02]; · iexact S02
    isplitl [S10]; · iexact S10
    isplitl [S11]; · iexact S11
    isplitl [S12]; · iexact S12
    isplitl [S20]; · iexact S20
    isplitl [S21]; · iexact S21
    isplitl [S22]; · iexact S22
    isplitl [S30]; · iexact S30
    isplitl [S31]; · iexact S31
    isplitl [S32]; · iexact S32
    iexact SO
  · isplitl [W0]; · iexact W0
    isplitl [W1]; · iexact W1
    isplitl [X0]; · iexact X0
    isplitl [X1]; · iexact X1
    isplitl [X2]; · iexact X2
    isplitl [X3]; · iexact X3
    isplitl [H0]; · iexact H0
    isplitl [H1]; · iexact H1
    isplitl [HP]; · iexact HP
    isplitl [M0]; · iexact M0
    isplitl [M1]; · iexact M1
    iexact M2
  · isplitl [O0]; · iexact O0
    isplitl [O1]; · iexact O1
    isplitl [O2]; · iexact O2
    isplitl [O3]; · iexact O3
    isplitl [O4]; · iexact O4
    isplitl [O5]; · iexact O5
    isplitl [O6]; · iexact O6
    iexact O7

end Cert.KernelIdealProof

end
-- ==== Proof.KernelIdeal.Funding.lean ====
/-
What the launch funds: every cell's invariant, every device's rights to pay and to wait, and the credits it waits with.
-/
module

public import proofs.«01_k».proof.Proof.KernelIdeal.Blocks

@[expose] public section

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens, indexed -/

theorem cell_inj : Function.Injective fun p : Dev nD × CI => cell p.1 p.2 := fun p q h => by
  have h1 : p.1 = q.1 := congrArg (fun g : GSem nD τ sig => g.1.1) h
  have h2 : p.2 = q.2 := csem_inj (congrArg Prod.snd h)
  exact Prod.ext h1 h2

/-- The barrier cells, live from the launch; the other cells, opened on entering the kernel. -/
def barCells : Finset (GSem nD τ sig) := Finset.univ.map ⟨fun c : Dev nD => cell c none, fun c d h => congrArg Prod.fst (cell_inj (a₁ := (c, none)) (a₂ := (d, none)) h)⟩
def dmaCells : Finset (GSem nD τ sig) :=
  Finset.univ.map ⟨fun p : Dev nD × (Fin 4 × Fin 3) => cell p.1 (some p.2), fun p q h => by
    have h' := cell_inj (a₁ := (p.1, some p.2)) (a₂ := (q.1, some q.2)) h
    exact Prod.ext (Prod.mk.inj h').1 (Option.some.inj (Prod.mk.inj h').2)⟩

theorem mem_bar (c : Dev nD) : cell c none ∈ barCells := Finset.mem_map.mpr ⟨c, Finset.mem_univ _, rfl⟩
theorem mem_dma (c : Dev nD) (p : Fin 4 × Fin 3) : cell c (some p) ∈ dmaCells := Finset.mem_map.mpr ⟨(c, p), Finset.mem_univ _, rfl⟩
theorem cells_disj : Disjoint barCells dmaCells := Finset.disjoint_left.mpr fun g hb hd => by
  obtain ⟨c, -, rfl⟩ := Finset.mem_map.mp hb
  obtain ⟨p, -, h⟩ := Finset.mem_map.mp hd
  exact Option.some_ne_none _ (congrArg Prod.snd (cell_inj (a₁ := (p.1, some p.2)) (a₂ := (c, none)) h))

/-- The `e`-th token of device `c`'s barrier and of its four arrays of cells. -/
def tok (x : Dev nD × (Fin 5 × Fin 3)) : GSem nD τ sig × ℕ × Fin 3 :=
  Fin.cases (motive := fun _ => GSem nD τ sig × ℕ × Fin 3) (cell x.1 none, 0, x.2.2) (fun k => (cell x.1 (some (k, x.2.2)), 0, 0)) x.2.1

theorem tok_inj : Function.Injective tok := by
  rintro ⟨c, k, e⟩ ⟨c', k', e'⟩ h
  induction k using Fin.cases with
  | zero =>
    induction k' using Fin.cases with
    | zero =>
      have h1 := congrArg Prod.fst (cell_inj (a₁ := (c, none)) (a₂ := (c', none)) (congrArg Prod.fst h))
      have h2 : e = e' := congrArg (fun t : GSem nD τ sig × ℕ × Fin 3 => t.2.2) h
      simp only at h1
      rw [h1, h2]
    | succ k' =>
      exact absurd (congrArg Prod.snd (cell_inj (a₁ := (c, none)) (a₂ := (c', some (k', e'))) (congrArg Prod.fst h))) (by simp)
  | succ k =>
    induction k' using Fin.cases with
    | zero =>
      exact absurd (congrArg Prod.snd (cell_inj (a₁ := (c, some (k, e))) (a₂ := (c', none)) (congrArg Prod.fst h))) (by simp)
    | succ k' =>
      have h0 := cell_inj (a₁ := (c, some (k, e))) (a₂ := (c', some (k', e'))) (congrArg Prod.fst h)
      simp only [Prod.mk.injEq, Option.some.injEq] at h0
      obtain ⟨rfl, rfl, rfl⟩ := h0
      rfl

def toks : Finset (GSem nD τ sig × ℕ × Fin 3) := Finset.univ.map ⟨tok, tok_inj⟩

/-- The launch's record of the exchange. -/
def x₀ : UB := launchOf barCells dmaCells toks

/-! ## Dealing the tokens -/

omit [FloatOps F] in
theorem sep3 (Φ : Fin 3 → sProp 𝕄) : bigSep Finset.univ Φ = iprop(Φ 0 ∗ Φ 1 ∗ Φ 2) := by
  rw [bigSep_univ_eq_bigSepL [0, 1, 2] (by decide) (by decide)]; rfl
omit [FloatOps F] in
theorem sep4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
omit [FloatOps F] in
theorem sep5 (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]; rfl

/-- Who pays whom, the other way round. -/
def turn : Dev nD × Fin 3 ≃ Dev nD × Fin 3 where
  toFun p := (tgt p.1 p.2, rev p.2)
  invFun p := (tgt p.1 p.2, rev p.2)
  left_inv p := Prod.ext (tgt_rev p.1 p.2) (rev_rev p.2)
  right_inv p := Prod.ext (tgt_rev p.1 p.2) (rev_rev p.2)

omit [FloatOps F] in
theorem turned (Ψ : Dev nD → Fin 3 → sProp 𝕄) :
    (bigSep Finset.univ fun c => bigSep Finset.univ fun e => Ψ c e) = bigSep Finset.univ fun c => bigSep Finset.univ fun e => Ψ (tgt c e) (rev e) := by
  rw [← bigSep_univ_prod fun p : Dev nD × Fin 3 => Ψ p.1 p.2, bigSep_univ_equiv turn,
    bigSep_univ_prod fun p : Dev nD × Fin 3 => Ψ (turn p).1 (turn p).2]
  rfl

variable (c : Dev nD)

/-- The rights to pay device `c` uses: at the others' barriers, at its own cells of the copies it sends, at the cells
    of the devices it sends to. -/
def Pays : sProp 𝕄 :=
  iprop((bigSep Finset.univ fun e => dutyTok ER (cell (tgt c e) none) 0 (rev e))
    ∗ (bigSep Finset.univ fun e => dutyTok ER (cell c (some (0, e))) 0 0)
    ∗ (bigSep Finset.univ fun e => dutyTok ER (cell (tgt c e) (some (1, rev e))) 0 0)
    ∗ (bigSep Finset.univ fun e => dutyTok ER (cell c (some (2, e))) 0 0)
    ∗ (bigSep Finset.univ fun e => dutyTok ER (cell (tgt c e) (some (3, rev e))) 0 0))

omit [FloatOps F] in
theorem deal : (bigSep toks fun x => (dutyTok ER x.1 x.2.1 x.2.2 : sProp 𝕄)) = bigSep Finset.univ fun c : Dev nD => Pays c := by
  unfold toks
  rw [bigSep_map, bigSep_univ_prod]
  have h (c : Dev nD) : (bigSep Finset.univ fun p : Fin 5 × Fin 3 => (dutyTok ER (tok (c, p)).1 (tok (c, p)).2.1 (tok (c, p)).2.2 : sProp 𝕄))
      = iprop((bigSep Finset.univ fun e => dutyTok ER (cell c none) 0 e) ∗ (bigSep Finset.univ fun e => dutyTok ER (cell c (some (0, e))) 0 0)
        ∗ (bigSep Finset.univ fun e => dutyTok ER (cell c (some (1, e))) 0 0) ∗ (bigSep Finset.univ fun e => dutyTok ER (cell c (some (2, e))) 0 0)
        ∗ (bigSep Finset.univ fun e => dutyTok ER (cell c (some (3, e))) 0 0)) := by
    rw [bigSep_univ_prod, sep5]; rfl
  refine (bigSep_congr fun c _ => h c).trans ?_
  unfold Pays
  simp only [bigSep_sep']
  rw [turned fun c e => dutyTok ER (cell c none) 0 e, turned fun c e => dutyTok ER (cell c (some (1, e))) 0 0,
    turned fun c e => dutyTok ER (cell c (some (3, e))) 0 0]

/-! ## The credits -/

theorem tally_cell (t c : Dev nD) (i j : CI) (a : ℕ) : (tallyAt (cell t i) () a : CellTallies nD τ sig Unit) (cell c j) () = if i = j then (if t = c then a else 0) else 0 := by
  rw [tallyAt_apply]
  by_cases h : i = j ∧ t = c
  · rw [if_pos ⟨by rw [h.1, h.2], rfl⟩, if_pos h.1, if_pos h.2]
  · rw [if_neg]
    · by_cases h1 : i = j
      · rw [if_pos h1, if_neg fun h2 => h ⟨h1, h2⟩]
      · rw [if_neg h1]
    · rintro ⟨h1, -⟩
      have h2 := cell_inj (a₁ := (c, j)) (a₂ := (t, i)) h1
      exact h ⟨(congrArg Prod.snd h2).symm, (congrArg Prod.fst h2).symm⟩

theorem sum_tgt (e : Fin 3) (c : Dev nD) (a : ℕ) : (∑ d : Dev nD, if tgt d e = c then a else 0) = a := by
  have h (d : Dev nD) : (if tgt d e = c then a else 0) = if d = tgt c (rev e) then a else 0 := if_congr
    ⟨fun h => by rw [← h, tgt_rev], fun h => by rw [h, tgt_rev']⟩ rfl rfl
  rw [Finset.sum_congr rfl fun d _ => h d, Finset.sum_ite_eq' Finset.univ (tgt c (rev e)) fun _ => a, if_pos (Finset.mem_univ _)]

theorem owed_at (d c : Dev nD) (j : CI) : O₀ d (cell c j) ()
    = (∑ e : Fin 3, if (some (3, rev e) : CI) = j then (if tgt d e = c then NA else 0) else 0)
      + (∑ e : Fin 3, if (some (1, rev e) : CI) = j then (if tgt d e = c then NX else 0) else 0)
      + ∑ e : Fin 3, if (none : CI) = j then (if tgt d e = c then 1 else 0) else 0 := by
  simp only [O₀, OB2, OB1, OX, OX2, OX1, OA, OA2, OA1, ta, tx, tb, Pi.add_apply, Finsupp.add_apply, Fin.sum_univ_three]
  rw [tally_cell (tgt d 1) c (some (3, rev 1)) j NA, tally_cell (tgt d 2) c (some (3, rev 2)) j NA, tally_cell (tgt d 0) c (some (3, rev 0)) j NA, tally_cell (tgt d 1) c (some (1, rev 1)) j NX, tally_cell (tgt d 2) c (some (1, rev 2)) j NX, tally_cell (tgt d 0) c (some (1, rev 0)) j NX, tally_cell (tgt d 1) c none j 1, tally_cell (tgt d 2) c none j 1, tally_cell (tgt d 0) c none j 1]
  simp only [Pi.zero_apply, Finsupp.zero_apply]
  omega

theorem sum_if {p : Prop} [Decidable p] (f : Dev nD → ℕ) : (∑ d, if p then f d else 0) = if p then ∑ d, f d else 0 := by
  split
  · rfl
  · exact Finset.sum_const_zero

theorem owed_sum (c : Dev nD) (j : CI) : (∑ d, O₀ d (cell c j) ())
    = (∑ e : Fin 3, if (some (3, rev e) : CI) = j then NA else 0) + (∑ e : Fin 3, if (some (1, rev e) : CI) = j then NX else 0)
      + ∑ e : Fin 3, if (none : CI) = j then 1 else 0 := by
  simp only [owed_at, Finset.sum_add_distrib]
  congr 1
  · congr 1
    · rw [Finset.sum_comm]; simp only [sum_if, sum_tgt]
    · rw [Finset.sum_comm]; simp only [sum_if, sum_tgt]
  · rw [Finset.sum_comm]; simp only [sum_if, sum_tgt]

theorem credit_eq (j : CI) (n : ℕ) (h : (∑ d, O₀ d (cell c j) ()) = n) :
    tallyOn (cell c j) (launchCredit (Pipeline.owing O₀) 0 (cell c j)) = (tallyAt (cell c j) () n : CellTallies nD τ sig Unit) := by
  unfold tallyAt; refine congrArg _ (Finsupp.ext fun u => ?_); cases u
  rw [Pipeline.launchCredit_owing, Finsupp.single_eq_same, h]

theorem credit_bar : tallyOn (cell c none) (launchCredit (Pipeline.owing O₀) 0 (cell c none)) = (tallyAt (cell c none) () 3 : CellTallies nD τ sig Unit) :=
  credit_eq c none 3 (by rw [owed_sum]; simp)
theorem credit_x (e : Fin 3) : tallyOn (cell c (some (1, e))) (launchCredit (Pipeline.owing O₀) 0 (cell c (some (1, e)))) = (tallyAt (cell c (some (1, e))) () NX : CellTallies nD τ sig Unit) :=
  credit_eq c _ NX (by rw [owed_sum]; fin_cases e <;> simp [rev, Fin.sum_univ_three, Fin.ext_iff])
theorem credit_a (e : Fin 3) : tallyOn (cell c (some (3, e))) (launchCredit (Pipeline.owing O₀) 0 (cell c (some (3, e)))) = (tallyAt (cell c (some (3, e))) () NA : CellTallies nD τ sig Unit) :=
  credit_eq c _ NA (by rw [owed_sum]; fin_cases e <;> simp [rev, Fin.sum_univ_three, Fin.ext_iff])

/-- The credits device `c` waits with. -/
def Creds : sProp 𝕄 :=
  iprop(cred (tallyAt (cell c none) () 3) ∗ (bigSep Finset.univ fun e => cred (tallyAt (cell c (some (1, e))) () NX))
    ∗ bigSep Finset.univ fun e => cred (tallyAt (cell c (some (3, e))) () NA))

omit [FloatOps F] in
theorem creds : (Pipeline.launchCred O₀ c : sProp 𝕄) ⊢ Creds c := by
  have hsub : (Finset.univ.map ⟨csem, csem_inj⟩ : Finset (SemLoc sig)) ⊆ Finset.univ := Finset.subset_univ _
  unfold Pipeline.launchCred
  refine (bigSep_subset hsub).trans ?_
  rw [bigSep_map]
  have hs : ({none} : Finset CI) ∪ Finset.univ.map ⟨fun e : Fin 3 => (some (1, e) : CI), fun a b h => by simpa using h⟩ ∪ Finset.univ.map ⟨fun e : Fin 3 => (some (3, e) : CI), fun a b h => by simpa using h⟩ ⊆ Finset.univ :=
    Finset.subset_univ _
  refine (bigSep_subset hs).trans ?_
  have h3 (Φ : CI → sProp 𝕄) : bigSep (({none} : Finset CI) ∪ Finset.univ.map ⟨fun e : Fin 3 => (some (1, e) : CI), fun a b h => by simpa using h⟩
        ∪ Finset.univ.map ⟨fun e : Fin 3 => (some (3, e) : CI), fun a b h => by simpa using h⟩) Φ
      = iprop((Φ none ∗ bigSep Finset.univ fun e => Φ (some (1, e))) ∗ bigSep Finset.univ fun e => Φ (some (3, e))) := by
    rw [bigSep_union (by decide), bigSep_union (by decide), bigSep_singleton, bigSep_map, bigSep_map]; rfl
  rw [h3]
  show iprop((cred (tallyOn (cell c none) (launchCredit (Pipeline.owing O₀) 0 (cell c none)))
      ∗ bigSep Finset.univ fun e : Fin 3 => cred (tallyOn (cell c (some (1, e))) (launchCredit (Pipeline.owing O₀) 0 (cell c (some (1, e))))))
    ∗ bigSep Finset.univ fun e : Fin 3 => cred (tallyOn (cell c (some (3, e))) (launchCredit (Pipeline.owing O₀) 0 (cell c (some (3, e)))))) ⊢ (Creds c : sProp 𝕄)
  unfold Creds
  iintro ⟨⟨H0, H1⟩, H3⟩
  isplitl [H0]
  · iapply (Entails.of_eq (congrArg cred (credit_bar c))); iexact H0
  isplitl [H1]
  · iapply (Entails.of_eq (bigSep_congr (s := Finset.univ) fun (e : Fin 3) _ => congrArg (fun t => (cred t : sProp 𝕄)) (credit_x c e))); iexact H1
  iapply (Entails.of_eq (bigSep_congr (s := Finset.univ) fun (e : Fin 3) _ => congrArg (fun t => (cred t : sProp 𝕄)) (credit_a c e))); iexact H3

end Cert.KernelIdealProof

end
-- ==== Proof.KernelIdeal.Region.lean ====
/-
The kernel's region on a device: what it is entered with, what it leaves, and the body between them.
-/
module

public import proofs.«01_k».proof.Proof.KernelIdeal.Body
public import proofs.«01_k».proof.Proof.KernelIdeal.Funding

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- An output entry's place within its tile. -/
def within (i : S1024x8192.Idx) : S1024x1024.Idx
  | 0 => ⟨(i 0).val, (i 0).isLt⟩
  | 1 => ⟨(i 1).val % 1024, Nat.mod_lt _ (by decide)⟩
/-- Its tile. -/
def tileOf (i : S1024x8192.Idx) : Fin 8 := ⟨(i 1).val / 1024, by have h : (i 1).val < 8192 := (i 1).isLt; omega⟩
/-- What device `c` ends with. -/
def res (c : Dev nD) : Vec F S1024x8192 .f32 := fun i => A4 m c (tileOf i) (within i)

variable (c : Dev nD)

theorem tiles_res (g : Buf (Elt F) ((oM).view.loc (c : Thread nD τ))) (hg : ∀ n, ((oM).access (oR n)).read (Elt F) g = A4 m c n) : g = res m c := by
  funext i
  have h := congrFun (hg (tileOf i)) (within i)
  rw [View.read_apply] at h
  have hi : ((oM).access (oR (tileOf i))).emb (within i) = i := by
    funext a
    refine Fin.ext ?_
    match a with
    | 0 => exact (show 0 + 1 * (i 0).val = (i 0).val by omega)
    | 1 => exact (show 1024 * ((i 1).val / 1024) + 1 * ((i 1).val % 1024) = (i 1).val by omega)
  exact (congrArg g hi).symm.trans h

/-! ## What the region is entered with -/

/-- The invariants, and every barrier cell live. -/
def Live (κ : Dev nD × CI → ℕ) : sProp 𝕄 := iprop(Ctx m κ ∗ bigSep Finset.univ fun d : Dev nD => reached ER (cell d none) 0)
instance live_persistent (κ : Dev nD × CI → ℕ) : BI.Persistent (Live m κ) := by unfold Live; infer_instance

/-- What the launch gives a device: the invariants, its position at its barrier, the right to open its cells, the rights
    to pay, the credits. -/
def Given : sProp 𝕄 :=
  iprop(∃ κ, Live m κ ∗ atPos ER (cell c none) 0 ∅ 0 ∗ (bigSep Finset.univ fun p : Fin 4 × Fin 3 => openTok ER (cell c (some p))) ∗ Pays c ∗ Creds c)

omit [FloatOps F] in
theorem live_at (d : Dev nD) : iprop(bigSep Finset.univ fun d : Dev nD => reached ER (cell d none) 0) ⊢ (reached ER (cell d none) 0 : sProp 𝕄) :=
  bigSep_elim (Φ := fun d : Dev nD => (reached ER (cell d none) 0 : sProp 𝕄)) (Finset.mem_univ d)

/-- A cell open, at its start. -/
def Opened (p : Fin 4 × Fin 3) : sProp 𝕄 := iprop(atPos ER (cell c (some p)) 0 ∅ 0 ∗ reached ER (cell c (some p)) 0)

theorem open_cells (κ : Dev nD × CI → ℕ) :
    iprop(Live m κ ∗ (bigSep Finset.univ fun p : Fin 4 × Fin 3 => openTok ER (cell c (some p))) ∗ bigSep Finset.univ fun p : Fin 4 × Fin 3 => semVal (cell c (some p)) 0)
      ⊢ (|={Set.univ}=> bigSep Finset.univ fun p : Fin 4 × Fin 3 => Opened c p : sProp 𝕄) := by
  have h1 (p : Fin 4 × Fin 3) (_ : p ∈ Finset.univ) : iprop(Live m κ ∗ (openTok ER (cell c (some p)) ∗ semVal (cell c (some p)) 0)) ⊢ (|={Set.univ}=> Opened c p : sProp 𝕄) := by
    unfold Live Opened
    iintro ⟨⟨#HC, -⟩, Ho, Hv⟩
    iapply (Rounds.cell_open ER (Rd m) (κ := κ (c, some p)) (g := cell c (some p)) (Set.mem_univ _))
    isplitr; · iapply (ctx_inv m κ); iexact HC
    isplitl [Ho]; · iexact Ho
    iexact Hv
  iintro ⟨#HL, Ho, Hv⟩
  iapply (bigSep_fupd Finset.univ fun p : Fin 4 × Fin 3 => (Opened c p : sProp 𝕄))
  iapply (bigSep_with_persistent (R := Live m κ) h1)
  isplitr; · iexact HL
  iapply (Entails.of_eq (bigSep_sep' Finset.univ (fun p : Fin 4 × Fin 3 => (openTok ER (cell c (some p)) : sProp 𝕄)) (fun p => semVal (cell c (some p)) 0)).symm)
  isplitl [Ho]; · iexact Ho
  iexact Hv

theorem opened_eq : (bigSep Finset.univ fun p : Fin 4 × Fin 3 => (Opened c p : sProp 𝕄))
    = iprop((Opened c (0, 0) ∗ Opened c (0, 1) ∗ Opened c (0, 2)) ∗ (Opened c (1, 0) ∗ Opened c (1, 1) ∗ Opened c (1, 2))
      ∗ (Opened c (2, 0) ∗ Opened c (2, 1) ∗ Opened c (2, 2)) ∗ (Opened c (3, 0) ∗ Opened c (3, 1) ∗ Opened c (3, 2))) := by
  rw [bigSep_univ_prod, sep4, sep3, sep3, sep3, sep3]

/-- The body's start from its pieces. -/
theorem start_intro (κ : Dev nD × CI → ℕ) :
    iprop(Live m κ ∗ (∃ W, owes (c : Thread nD τ) (O₀ c) W) ∗ atPos ER (cell c none) 0 ∅ 0 ∗ Pays c ∗ Creds c
        ∗ (bigSep Finset.univ fun p : Fin 4 × Fin 3 => Opened c p)
        ∗ (XAny c 0 ∗ XAny c 1 ∗ XAny c 2) ∗ (PAny c 0 ∗ PAny c 1 ∗ PAny c 2))
      ⊢ Start m κ c := by
  rw [opened_eq]
  unfold Start Pays Creds Live Opened
  simp only [sep3]
  unfold Ow SigT Gives BarT SendT Tok
  iintro ⟨⟨#HC, #HR⟩, HO, Hb, ⟨⟨B0, B1, B2⟩, ⟨S0, S1, S2⟩, ⟨R0, R1, R2⟩, ⟨U0, U1, U2⟩, ⟨V0, V1, V2⟩⟩, ⟨Cb, ⟨X0, X1, X2⟩, ⟨Y0, Y1, Y2⟩⟩,
    ⟨⟨⟨a00, #r00⟩, ⟨a01, #r01⟩, ⟨a02, #r02⟩⟩, ⟨⟨a10, #r10⟩, ⟨a11, #r11⟩, ⟨a12, #r12⟩⟩,
      ⟨⟨a20, #r20⟩, ⟨a21, #r21⟩, ⟨a22, #r22⟩⟩, ⟨⟨a30, #r30⟩, ⟨a31, #r31⟩, ⟨a32, #r32⟩⟩⟩, ⟨x0, x1, x2⟩, ⟨p0, p1, p2⟩⟩
  isplitl [HO]
  · isplitr; · iexact HC
    iexact HO
  isplitl [B0 x0 p0]
  · isplitl [B0]; · iexact B0
    isplitr; · iapply (live_at (tgt c 0)); iexact HR
    isplitl [x0]; · iexact x0
    isplitl [p0]; · iexact p0
    isplitr; · iexact r10
    iexact r30
  isplitl [B1 x1 p1]
  · isplitl [B1]; · iexact B1
    isplitr; · iapply (live_at (tgt c 1)); iexact HR
    isplitl [x1]; · iexact x1
    isplitl [p1]; · iexact p1
    isplitr; · iexact r11
    iexact r31
  isplitl [B2 x2 p2]
  · isplitl [B2]; · iexact B2
    isplitr; · iapply (live_at (tgt c 2)); iexact HR
    isplitl [x2]; · iexact x2
    isplitl [p2]; · iexact p2
    isplitr; · iexact r12
    iexact r32
  isplitl [Cb Hb]
  · isplitl [Cb]; · iexact Cb
    iexact Hb
  isplitl [S0 R0 a00]
  · isplitl [S0]; · iexact S0
    isplitr; · iexact r00
    isplitl [a00] <;> iassumption
  isplitl [S1 R1 a01]
  · isplitl [S1]; · iexact S1
    isplitr; · iexact r01
    isplitl [a01] <;> iassumption
  isplitl [S2 R2 a02]
  · isplitl [S2]; · iexact S2
    isplitr; · iexact r02
    isplitl [a02] <;> iassumption
  isplitl [U0 V0 a20]
  · isplitl [U0]; · iexact U0
    isplitr; · iexact r20
    isplitl [a20] <;> iassumption
  isplitl [U1 V1 a21]
  · isplitl [U1]; · iexact U1
    isplitr; · iexact r21
    isplitl [a21] <;> iassumption
  isplitl [U2 V2 a22]
  · isplitl [U2]; · iexact U2
    isplitr; · iexact r22
    isplitl [a22] <;> iassumption
  isplitl [X0 a10]
  · isplitl [X0] <;> iassumption
  isplitl [X1 a11]
  · isplitl [X1] <;> iassumption
  isplitl [X2 a12]
  · isplitl [X2] <;> iassumption
  isplitl [Y0 a30]
  · isplitl [Y0] <;> iassumption
  isplitl [Y1 a31]
  · isplitl [Y1] <;> iassumption
  isplitl [Y2] <;> iassumption

/-! ## The buffers -/

abbrev buf (b : Ref sig .tc) : sProp 𝕄 := iprop(∃ f : Buf (Elt F) ((c : Thread nD τ).loc b), ((c : Thread nD τ).loc b) ↦{fullShare} f)

/-- The operands, in the shares their readers take. -/
def Lent : sProp 𝕄 :=
  iprop((VSh m c none ∗ VSh m c (some 0) ∗ VSh m c (some 1) ∗ VSh m c (some 2)) ∗ WSh m c 0 ∗ WSh m c 1)

theorem lend : iprop((((c : Thread nD τ).loc main_arg1) ↦{fullShare} V m c main_arg1) ∗ (((c : Thread nD τ).loc main_v1) ↦{fullShare} V m c main_v1))
    ⊢ (Lent m c : sProp 𝕄) := by
  unfold Lent VSh WSh
  iintro ⟨Hw, Hv⟩
  ihave Hw := (pointsTo_halves).1 $$ Hw
  icases Hw with ⟨H0, H1⟩
  ihave Hv := (pointsTo_halves).1 $$ Hv
  icases Hv with ⟨Hl, Hr⟩
  ihave Hl := (pointsTo_halves).1 $$ Hl
  icases Hl with ⟨Hn, Ha⟩
  ihave Hr := (pointsTo_halves).1 $$ Hr
  icases Hr with ⟨Hb, Hc⟩
  isplitr [H0 H1]
  · isplitl [Hn]; · iexact Hn
    isplitl [Ha]; · iexact Ha
    isplitl [Hb]; · iexact Hb
    iexact Hc
  isplitl [H0]; · iexact H0
  iexact H1

theorem wsh_join : iprop(WSh m c 0 ∗ WSh m c 1) ⊢ (((c : Thread nD τ).loc main_arg1) ↦{fullShare} V m c main_arg1 : sProp 𝕄) := by
  unfold WSh
  exact (pointsTo_halves (ℓ := (c : Thread nD τ).loc main_arg1)).2

/-- The kernel's local semaphores. -/
abbrev K : Type := (Fin 4 × Fin 3) ⊕ Option (Fin 2)
def osem : K → SemLoc sig
  | .inl p => csem (some p)
  | .inr none => .dma ownS
  | .inr (some j) => .dma (wSem j)

theorem ownFacts : Pipeline.OwnSemFacts spec0 osem := by decide

theorem sems0_eq : (Pipeline.ownSems0 (Ix := Unit) (Name := ℕ) (U := UU) (Lvl := ℕ) (Val := Elt F) (τ := τ) osem c : sProp 𝕄)
    = iprop((bigSep Finset.univ fun p : Fin 4 × Fin 3 => semVal (cell c (some p)) 0) ∗ semVal ((c : Thread nD τ), .dma ownS) 0
      ∗ semVal ((c : Thread nD τ), .dma (wSem 0)) 0 ∗ semVal ((c : Thread nD τ), .dma (wSem 1)) 0) := by
  unfold Pipeline.ownSems0
  rw [bigSep_univ_sum, bigSep_univ_eq_bigSepL ([none, some 0, some 1] : List (Option (Fin 2))) (by decide) (by decide)]
  rfl

/-- What enters: all of the above. -/
def Entry : sProp 𝕄 :=
  iprop((∃ κ, Live m κ ∗ atPos ER (cell c none) 0 ∅ 0 ∗ Pays c ∗ Creds c ∗ bigSep Finset.univ fun p : Fin 4 × Fin 3 => Opened c p)
    ∗ Lent m c ∗ semVal ((c : Thread nD τ), .dma ownS) 0 ∗ semVal ((c : Thread nD τ), .dma (wSem 0)) 0 ∗ semVal ((c : Thread nD τ), .dma (wSem 1)) 0)
/-- What is left: the barrier at 0, `w` whole. -/
def Exit : sProp 𝕄 := iprop(semVal (cell c none) 0 ∗ (((c : Thread nD τ).loc main_arg1) ↦{fullShare} V m c main_arg1))

abbrev scoped0 : sProp 𝕄 := Pipeline.scopedRest (Ix := Unit) (Name := ℕ) (U := UU) (Lvl := ℕ) (Val := Elt F) spec0 c
abbrev sems0 : sProp 𝕄 := Pipeline.ownSems0 (Ix := Unit) (Name := ℕ) (U := UU) (Lvl := ℕ) (Val := Elt F) (τ := τ) osem c

omit [FloatOps F] in
theorem sep2 (Φ : Fin 2 → sProp 𝕄) : bigSep Finset.univ Φ = iprop(Φ 0 ∗ Φ 1) := by
  rw [bigSep_univ_eq_bigSepL [0, 1] (by decide) (by decide)]; rfl
omit [FloatOps F] in
theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

theorem x_split (f : Buf (Elt F) ((c : Thread nD τ).loc cc0_scratch0)) : (((c : Thread nD τ).loc cc0_scratch0) ↦{fullShare} f : sProp 𝕄)
    ⊢ iprop(XAny c 0 ∗ XAny c 1 ∗ XAny c 2 ∗ Any (c : Thread nD τ) xM (xR 3)) :=
  ((cuts_x).split (c := (c : Thread nD τ)) f).trans (Entails.of_eq (sep4 _))
theorem b_split (f : Buf (Elt F) ((c : Thread nD τ).loc cc0_scratch1)) : (((c : Thread nD τ).loc cc0_scratch1) ↦{fullShare} f : sProp 𝕄)
    ⊢ iprop(Any (c : Thread nD τ) bM (bR 0) ∗ Any (c : Thread nD τ) bM (bR 1)) :=
  ((cuts_b).split (c := (c : Thread nD τ)) f).trans (Entails.of_eq (sep2 _))
theorem h_split (f : Buf (Elt F) ((c : Thread nD τ).loc cc0_scratch2)) : (((c : Thread nD τ).loc cc0_scratch2) ↦{fullShare} f : sProp 𝕄)
    ⊢ iprop(HAny c 0 ∗ HAny c 1) :=
  ((cuts_h).split (c := (c : Thread nD τ)) f).trans (Entails.of_eq (sep2 _))
theorem p_split (f : Buf (Elt F) ((c : Thread nD τ).loc cc0_scratch4)) : (((c : Thread nD τ).loc cc0_scratch4) ↦{fullShare} f : sProp 𝕄)
    ⊢ iprop(PAny c 0 ∗ PAny c 1 ∗ PAny c 2) :=
  ((cuts_p).split (c := (c : Thread nD τ)) f).trans (Entails.of_eq (sep3 _))
theorem o_split (f : Buf (Elt F) ((c : Thread nD τ).loc cc0_stg0_0)) : (((c : Thread nD τ).loc cc0_stg0_0) ↦{fullShare} f : sProp 𝕄)
    ⊢ Out c :=
  ((cuts_o).split (c := (c : Thread nD τ)) f).trans (Entails.of_eq (sep8 _))

/-- Entered, the body starts. -/
theorem enter : iprop(Entry m c ∗ scoped0 c ∗ ∃ W, owes (c : Thread nD τ) (O₀ c) W) ⊢ iprop(∃ κ, Start m κ c ∗ Bufs m c) := by
  unfold Entry Lent scoped0 Bufs WIdle
  rw [scopedRest0_eq]
  iintro ⟨⟨⟨%κ, #HL, Hb, Hp, Hc, Ho⟩, ⟨⟨VN, V0, V1, V2⟩, W0, W1⟩, Zo, Z0, Z1⟩, ⟨⟨%f0, F0⟩, ⟨%f1, F1⟩, ⟨%f2, F2⟩, ⟨%f3, F3⟩, ⟨%f4, F4⟩⟩, HO⟩
  ihave F0 := (x_split c f0) $$ F0
  icases F0 with ⟨x0, x1, x2, x3⟩
  ihave F1 := (b_split c f1) $$ F1
  icases F1 with ⟨b0, b1⟩
  ihave F2 := (h_split c f2) $$ F2
  icases F2 with ⟨h0, h1⟩
  ihave F3 := (aR_any c f3) $$ F3
  ihave F4 := (p_split c f4) $$ F4
  icases F4 with ⟨p0, p1, p2⟩
  iexists κ
  isplitl [HO Hb Hp Hc Ho x0 x1 x2 p0 p1 p2]
  · iapply (start_intro m c κ)
    isplitr; · iexact HL
    isplitl [HO]; · iexact HO
    isplitl [Hb]; · iexact Hb
    isplitl [Hp]; · iexact Hp
    isplitl [Hc]; · iexact Hc
    isplitl [Ho]; · iexact Ho
    isplitl [x0 x1 x2]
    · isplitl [x0]; · iexact x0
      isplitl [x1] <;> iassumption
    isplitl [p0]; · iexact p0
    isplitl [p1] <;> iassumption
  isplitl [VN]; · iexact VN
  isplitl [V0]; · iexact V0
  isplitl [V1]; · iexact V1
  isplitl [V2]; · iexact V2
  isplitl [b0 Z0 W0]
  · isplitl [b0]; · iexact b0
    isplitl [Z0] <;> iassumption
  isplitl [b1 Z1 W1]
  · isplitl [b1]; · iexact b1
    isplitl [Z1] <;> iassumption
  isplitl [Zo]; · iexact Zo
  isplitl [x3]; · iexact x3
  isplitl [h0]; · iexact h0
  isplitl [h1]; · iexact h1
  iexact F3

include m in
theorem x_join : iprop(Any (c : Thread nD τ) xM (xR 0) ∗ Any (c : Thread nD τ) xM (xR 1) ∗ Any (c : Thread nD τ) xM (xR 2) ∗ Any (c : Thread nD τ) xM (xR 3))
    ⊢ (buf c cc0_scratch0 : sProp 𝕄) :=
  (Entails.of_eq (sep4 fun q => (Any (c : Thread nD τ) xM (xR q) : sProp 𝕄)).symm).trans ((cuts_x).joinAny (c := (c : Thread nD τ)) (m ((xM).view.loc (c : Thread nD τ))))
include m in
theorem b_join : iprop(Any (c : Thread nD τ) bM (bR 0) ∗ Any (c : Thread nD τ) bM (bR 1)) ⊢ (buf c cc0_scratch1 : sProp 𝕄) :=
  (Entails.of_eq (sep2 fun q => (Any (c : Thread nD τ) bM (bR q) : sProp 𝕄)).symm).trans ((cuts_b).joinAny (c := (c : Thread nD τ)) (m ((bM).view.loc (c : Thread nD τ))))
include m in
theorem h_join : iprop(HAny c 0 ∗ HAny c 1) ⊢ (buf c cc0_scratch2 : sProp 𝕄) :=
  (Entails.of_eq (sep2 fun q => (Any (c : Thread nD τ) hM (bR q) : sProp 𝕄)).symm).trans ((cuts_h).joinAny (c := (c : Thread nD τ)) (m ((hM).view.loc (c : Thread nD τ))))

/-- The body's end, as the region hands it back. -/
theorem leave (κ : Dev nD × CI → ℕ) : iprop(EndS m κ c ∗ EndB m c) ⊢ iprop((Exit m c ∗ sems0 c ∗ scoped0 c) ∗ ∃ W, owes (c : Thread nD τ) (0 : CellTallies nD τ sig Unit) W) := by
  unfold EndS EndB Exit sems0 scoped0 WHas Ow
  rw [sems0_eq, scopedRest0_eq, bigSep_univ_prod, sep4, sep3, sep3, sep3, sep3]
  iintro ⟨⟨⟨-, HO⟩, Sb, s00, s01, s02, s10, s11, s12, s20, s21, s22, s30, s31, s32, So⟩,
    ⟨⟨b0, Z0, W0⟩, ⟨b1, Z1, W1⟩, x0, x1, x2, x3, h0, h1, HP, M0, M1, M2⟩⟩
  ihave Hw := (wsh_join m c) $$ [W0 W1]
  · isplitl [W0] <;> iassumption
  ihave HM := (am_join m c) $$ [M0 M1 M2]
  · isplitl [M0]; · iexact M0
    isplitl [M1] <;> iassumption
  ihave HP := (pW_whole c _) $$ HP
  ihave HX := (x_join m c) $$ [x0 x1 x2 x3]
  · isplitl [x0]; · iapply Held.any; iexact x0
    isplitl [x1]; · iapply Held.any; iexact x1
    isplitl [x2]; · iapply Held.any; iexact x2
    iapply Held.any; iexact x3
  ihave HB := (b_join m c) $$ [b0 b1]
  · isplitl [b0]; · iapply Held.any; iexact b0
    iapply Held.any; iexact b1
  ihave HH := (h_join m c) $$ [h0 h1]
  · isplitl [h0]; · iapply Held.any; iexact h0
    iapply Held.any; iexact h1
  isplitr [HO]
  · isplitl [Sb Hw]
    · isplitl [Sb] <;> iassumption
    isplitr [HX HB HH HM HP]
    · isplitr [So Z0 Z1]
      · isplitl [s00 s01 s02]
        · isplitl [s00]; · iexact s00
          isplitl [s01] <;> iassumption
        isplitl [s10 s11 s12]
        · isplitl [s10]; · iexact s10
          isplitl [s11] <;> iassumption
        isplitl [s20 s21 s22]
        · isplitl [s20]; · iexact s20
          isplitl [s21] <;> iassumption
        isplitl [s30]; · iexact s30
        isplitl [s31] <;> iassumption
      isplitl [So]; · iexact So
      isplitl [Z0] <;> iassumption
    isplitl [HX]; · iexact HX
    isplitl [HB]; · iexact HB
    isplitl [HH]; · iexact HH
    isplitl [HM]; · iexists _; iexact HM
    iexact HP
  iexact HO

theorem o_join : (EndO m c : sProp 𝕄) ⊢ iprop(((c : Thread nD τ).loc cc0_stg0_0) ↦{fullShare} res m c) := by
  unfold EndO
  refine (Entails.of_eq (sep8 fun n => (OT c n (A4 m c n) : sProp 𝕄)).symm).trans (((cuts_o).joinHeld (c := (c : Thread nD τ)) (res m c) _).trans ?_)
  iintro ⟨%g, %hg, H⟩
  rw [tiles_res m c g hg]
  iexact H

end Cert.KernelIdealProof

end
-- ==== Proof.KernelIdeal.Run.lean ====
/-
The program run: its host operation, its region, its launch, and what every device's memory holds at the end.
-/
module

public import proofs.«01_k».proof.Proof.KernelIdeal.Region
public import proofs.«01_k».proof.Proof.Gen.KernelIdeal.Frame
public import Idealize.ShloMosaic.Lib.Pipeline.Value

@[expose] public section

set_option maxRecDepth 4096

noncomputable section

namespace Cert.KernelIdealProof

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- The unscoped buffers. -/
def outer : Finset (DevRef τ sig) := (StableHlo.tcRefs τ sig).filter fun b => ¬ b.isScoped

omit [FloatOps F] in
theorem outer_held (c : Dev nD) (W : Valuation τ sig (Elt F)) :
    (unscopedBufs c (fun b => W b) : sProp 𝕄) = StableHlo.held (c : Thread nD τ) outer W := by
  unfold unscopedBufs StableHlo.held outer StableHlo.tcRefs
  rw [Finset.filter_map, bigSep_map]
  rfl

omit [FloatOps F] in
theorem sub_outer (op : HloOp τ sig (Elt F)) (h : op.bufs ⊆ StableHlo.tcRefs τ sig) : op.bufs ⊆ outer := fun b hb =>
  Finset.mem_filter.mpr ⟨h hb, fun h' => Bool.false_ne_true ((op.no_scoped b hb).symm.trans h')⟩

/-- A device's buffers at launch. -/
abbrev launched (c : Dev nD) : Valuation τ sig (Elt F) := fun b => m (c, b)

/-- The region's data on a device: entered owing its twelve payments, left owing none, the staging buffer at the result. -/
def dats (_ : Fin 1) (c : Dev nD) : Dat τ (Elt F) Unit ℕ UU ℕ cfg0 c where
  A w := V m c (Pipeline.arrRef spec0 w)
  after w _ := match w with | ⟨0, _⟩ => res m c
  Φ t := if t.val = 0 then iprop(Entry m c ∗ scoped0 c) else iprop(Exit m c ∗ sems0 c ∗ scoped0 c)
  q _ := fullShare
  owed t := if t.val = 0 then O₀ c else 0

theorem A_eq (c : Dev nD) (w : Fin cfg0.W) : (dats m 0 c).A w = V m c (Pipeline.arrRef spec0 w) := by dsimp only [dats]

theorem last_ne : (Fin.last cfg0.N).val ≠ 0 := by decide
theorem Φ_first (c : Dev nD) : (dats m 0 c).Φ 0 = iprop(Entry m c ∗ scoped0 c) := by dsimp only [dats]; exact if_pos rfl
theorem Φ_last (c : Dev nD) : (dats m 0 c).Φ (Fin.last cfg0.N) = iprop(Exit m c ∗ sems0 c ∗ scoped0 c) := by dsimp only [dats]; exact if_neg last_ne
theorem owed_first (c : Dev nD) : (dats m 0 c).owed 0 = O₀ c := by dsimp only [dats]; exact if_pos rfl
theorem owed_last (c : Dev nD) : (dats m 0 c).owed (Fin.last cfg0.N) = 0 := by dsimp only [dats]; exact if_neg last_ne
theorem owed_above (c : Dev nD) (t : Fin (cfg0.N + 1)) : Above 0 ((dats m 0 c).owed t) := by
  dsimp only [dats]
  by_cases h : t.val = 0
  · rw [if_pos h]; exact above_O₀ c
  · rw [if_neg h]; exact above_zero

/-- The body, between the region's ends. -/
theorem body_obligation (c : Dev nD) : BodyObligation (dats m 0 c) (defs₀ (F := F)) 𝒱₀ () Set.univ := fun t => by
  obtain rfl := fin_N0 t
  rw [bigSep_W0, bigSep_W0]
  simp only [owns_whole_eq]
  rw [show (dats m 0 c).Φ t0_0.castSucc = iprop(Entry m c ∗ scoped0 c) from Φ_first m c,
    show (dats m 0 c).Φ t0_0.succ = iprop(Exit m c ∗ sems0 c ∗ scoped0 c) from Φ_last m c]
  unfold Dat.owesAt Pipeline.owesWithin
  rw [show (dats m 0 c).owed t0_0.castSucc = O₀ c from owed_first m c, show (dats m 0 c).owed t0_0.succ = 0 from owed_last m c]
  iintro ⟨⟨HE, Hs⟩, ⟨%W, -, HO⟩, ⟨%d0, %f0, %hf0, H0⟩⟩
  ihave HB := (enter m c) $$ [HE Hs HO]
  · isplitl [HE]; · iexact HE
    isplitl [Hs]; · iexact Hs
    iexists W; iexact HO
  icases HB with ⟨%κ, HS, HB⟩
  ihave H0 := (o_split c f0) $$ H0
  iapply (body m κ c) $$ [HS HB H0]
  · isplitl [HS]; · iexact HS
    isplitl [HB] <;> iassumption
  iintro ES EB EO
  ihave HL := (leave m c κ) $$ [ES EB]
  · isplitl [ES] <;> iassumption
  icases HL with ⟨HL, ⟨%W', HO⟩⟩
  ihave EO := (o_join m c) $$ EO
  isplitl [HL]; · iexact HL
  isplitl [HO]
  · iexists W'; isplitr; · ipureintro; exact fun _ _ => Or.inl trivial
    iexact HO
  iexists _; isplitr; swap; (· iexact EO); ipureintro; dsimp only [dats]

/-! ## The segments -/

/-- The region's array at the end is the result. -/
theorem final_eq (c : Dev nD) : (dats m 0 c).arrAt 0 cfg0.N = res m c := by
  funext i
  have h := (dats m 0 c).arrAt_emb_eq_flushed 0 (fun t t' _ _ hne => absurd ((fin_N0 t).trans (fin_N0 t').symm) hne) t0_0 (by decide) i
  have hi : ((cfg0.win 0).blk t0_0).view.emb i = i := by
    funext a
    refine Fin.ext ?_
    match a with
    | 0 => exact (show 0 + 1 * (i 0).val = (i 0).val by omega)
    | 1 => exact (show 0 + 1 * (i 1).val = (i 1).val by omega)
  exact (congrArg _ hi).symm.trans h

abbrev adm : (p : Fin 1) → (pcfgs (F := F) p).Adm := fun p => (cfgs p).toPCfg_adm

/-- What rides beside the buffers through the host operation. -/
abbrev beside (c : Dev nD) : sProp 𝕄 := iprop(Given m c ∗ ∃ W, owes (c : Thread nD τ) (O₀ c) W)

/-- The host segment. -/
def seg0 : Pipeline.HostSeg (Name := ℕ) (U := UU) (pcfgs (F := F)) defs₀ 𝒱₀ L lv :=
  Pipeline.HostSeg.ofOps _ _ _ _ _ outer hostOps0 (fun op h => sub_outer op ((List.forall_iff_forall_mem.mp hostOps0_sub) op h))
    (by intro _ h; (repeat (cases h with | head => rfl | tail _ h => ?_)); exact nomatch h) (launched m) (beside m)

/-- What the region leaves: its array at the result, the arguments as launched, the barrier at 0. -/
abbrev Done (c : Dev nD) : sProp 𝕄 :=
  iprop((dats m 0 c).arrays ((dats m 0 c).arrAt · cfg0.N) ∗ (((c : Thread nD τ).loc main_arg0) ↦{fullShare} V m c main_arg0)
    ∗ (((c : Thread nD τ).loc main_arg1) ↦{fullShare} V m c main_arg1) ∗ semVal (cell c none) 0)

set_option backward.isDefEq.respectTransparency.types false in
/-- The region segment. -/
def reg0 : Pipeline.RegionSeg (pcfgs (F := F)) adm (dats m) () defs₀ 𝒱₀ L lv 0 where
  win := launch0.win.to₀
  block_pos := launch0.block_pos
  stage_whole := launch0.stage_whole
  K := K
  osem := osem
  ho := ownFacts
  hbody c := (body_obligation m c).loose
  hwaits c := Pipeline.cellsWaits_intro _ (dats m) () 0 c fun w s t => by
    obtain rfl : w = 0 := Fin.ext (Nat.lt_one_iff.mp w.isLt)
    obtain rfl : s = 0 := Fin.ext (Nat.lt_one_iff.mp s.isLt)
    exact mayWait c _ (Nat.le_of_eq (lvs_none kind_stage)) (owed_above m c t)
  pre c := iprop(StableHlo.held (c : Thread nD τ) outer (StableHlo.after hostOps0 (launched m c)) ∗ beside m c)
  post c := iprop(Done m c ∗ ∃ W, owes (c : Thread nD τ) (0 : CellTallies nD τ sig Unit) W)
  X c := Entry m c
  Y c := Exit m c
  Z c := ((c : Thread nD τ).loc main_arg0) ↦{fullShare} V m c main_arg0
  hentry c := by
    rw [show StableHlo.held (c : Thread nD τ) outer (StableHlo.after hostOps0 (launched m c)) = unscopedBufs c (V m c) from (outer_held c _).symm]
    rw [show Pipeline.ownSems0 osem c = _ from sems0_eq c]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    dsimp only [beside]
    unfold Given Entry
    iintro ⟨⟨Hub, ⟨%κ, #HL, Hb, Ho, Hp, Hc⟩, HO⟩, ⟨Hs, Zo, Z0, Z1⟩, -⟩
    ihave H := hsplit $$ Hub
    icases H with ⟨Ha, H0, H1, Hv⟩
    ihave HLent := (lend m c) $$ [H1 Hv]
    · isplitl [H1] <;> iassumption
    imod (open_cells m c κ) $$ [Ho Hs] with Ho
    · isplitr; · iexact HL
      isplitl [Ho] <;> iassumption
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_first]
      icases HO with ⟨%W, HO⟩; iexists W; isplitr; · ipureintro; exact fun _ _ => Or.inl trivial
      iexact HO
    isplitr [H0]
    · isplitl [Hb Hp Hc Ho]
      · iexists κ
        isplitr; · iexact HL
        isplitl [Hb]; · iexact Hb
        isplitl [Hp]; · iexact Hp
        isplitl [Hc]; · iexact Hc
        iexact Ho
      isplitl [HLent]; · iexact HLent
      isplitl [Zo]; · iexact Zo
      isplitl [Z0] <;> iassumption
    iexact H0
  hin c := by
    rw [Φ_first]
    iintro ⟨HE, -, Hr⟩
    isplitl [HE]; · iexact HE
    iexact Hr
  hout c := by
    rw [Φ_last]
  hexit c := by
    unfold Exit Pipeline.Dat.owesAt Pipeline.owesWithin
    rw [owed_last]
    iintro ⟨Ha, ⟨%W, -, HO⟩, ⟨Hb, H1⟩, H0⟩
    imodintro
    isplitr [HO]
    · isplitl [Ha]; · iexact Ha
      isplitl [H0]; · iexact H0
      isplitl [H1]; · iexact H1
      iexact Hb
    · iexists W; iexact HO

abbrev segs : List (Pipeline.Seg (pcfgs (F := F)) adm (dats m) () defs₀ 𝒱₀ L lv) := [.host (seg0 m), .region (reg0 m)]

/-! ## The launch -/

/-- The launch element. -/
def u₀ : UU := (initOf (Pipeline.cells cfgs cellOf_inj) (Pipeline.launchToks cfgs cellOf_inj), (x₀, 1))

/-- Device 0 is given the protocol's element. -/
def seed (c : Dev nD) : sProp 𝕄 := if c = 0 then BI.own (ER x₀) else iprop(emp)

theorem fund : (ownU u₀ : sProp 𝕄)
    ⊢ (|={Set.univ}=> iprop(BI.own (EP (initOf (Pipeline.cells cfgs cellOf_inj) (Pipeline.launchToks cfgs cellOf_inj))) ∗ bigSep Finset.univ seed) : sProp 𝕄) := by
  have h1 : (BI.own (ER x₀) : sProp 𝕄) ⊢ bigSep Finset.univ seed := by
    have h2 : (bigSep (Finset.univ.erase (0 : Dev nD)) seed : sProp 𝕄) = iprop(emp) :=
      (bigSep_congr fun c hc => if_neg (Finset.ne_of_mem_erase hc)).trans (BI.bigSep_emp_const _)
    rw [bigSep_univ_at seed 0, h2, show seed 0 = (BI.own (ER x₀) : sProp 𝕄) from if_pos rfl]
    iintro H
    isplitl [H]; · iexact H
    iempintro
  unfold u₀
  iintro Hu
  ihave H := (ownU_pair _ _) $$ Hu
  icases H with ⟨HP, HX⟩
  ihave HX := (own_pair_emb embR x₀ (1 : Counters)) $$ HX
  icases HX with ⟨HX, -⟩
  imodintro
  isplitl [HP]; · iexact HP
  iapply h1
  iexact HX

abbrev First (c : Dev nD) : sProp 𝕄 := iprop(StableHlo.held (c : Thread nD τ) outer (launched m c) ∗ beside m c)

omit [FloatOps F] in
theorem sems_bar : (bigSep Finset.univ fun c : Dev nD => (unscopedSems0 c : sProp 𝕄)) = bigSep barCells fun g => semVal g 0 := by
  unfold barCells
  rw [bigSep_map]
  exact bigSep_congr fun c _ => bigSep_eq_bigSepL_of_eq [SemLoc.reg barS] (by decide) (by decide) _

/-- The invariants of all cells, from those of the two kinds. -/
theorem live_intro (κ : GSem nD τ sig → ℕ) :
    iprop(levAts L lv ∗ bigSep (barCells ∪ dmaCells) (fun g => cellInv ER (Rd m) (κ g) g) ∗ bigSep barCells fun g => reached ER g 0)
      ⊢ Live m fun p => κ (cell p.1 p.2) := by
  have hm (p : Dev nD × CI) : cell p.1 p.2 ∈ barCells ∪ dmaCells := by
    obtain ⟨d, i⟩ := p
    cases i with
    | none => exact Finset.mem_union_left _ (mem_bar d)
    | some q => exact Finset.mem_union_right _ (mem_dma d q)
  have hc : (bigSep (barCells ∪ dmaCells) (fun g => cellInv ER (Rd m) (κ g) g) : sProp 𝕄)
      ⊢ bigSep Finset.univ fun p : Dev nD × CI => cellInv ER (Rd m) (κ (cell p.1 p.2)) (cell p.1 p.2) :=
    bigSep_intro_persistent fun p _ => bigSep_elim (Φ := fun g => cellInv ER (Rd m) (κ g) g) (hm p)
  have hr : (bigSep barCells fun g => reached ER g 0 : sProp 𝕄) ⊢ bigSep Finset.univ fun d : Dev nD => reached ER (cell d none) 0 :=
    Entails.of_eq (by unfold barCells; rw [bigSep_map]; rfl)
  unfold Live Ctx
  iintro ⟨HL, HC, HR⟩
  isplitl [HL HC]
  · isplitl [HL]; · iexact HL
    iapply hc; iexact HC
  iapply hr; iexact HR

/-- Each device's holdings at the launch: its buffers, what it owes, its barrier's position, its tokens, its rights to
    pay, its credits. -/
abbrev Dealt (c : Dev nD) : sProp 𝕄 :=
  iprop(StableHlo.held (c : Thread nD τ) outer (launched m c) ∗ owes (c : Thread nD τ) (O₀ c) ∅ ∗ atPos ER (cell c none) 0 ∅ 0
    ∗ (bigSep Finset.univ fun p : Fin 4 × Fin 3 => openTok ER (cell c (some p))) ∗ Pays c ∗ Creds c)

theorem first_intro (κ : Dev nD × CI → ℕ) (c : Dev nD) : iprop(Live m κ ∗ Dealt m c) ⊢ First m c := by
  dsimp only [First, Dealt, beside]
  unfold Given
  iintro ⟨#HL, Hh, HO, Ha, Ht, Hp, Hc⟩
  isplitl [Hh]; · iexact Hh
  isplitr [HO]
  · iexists κ
    isplitr; · iexact HL
    isplitl [Ha]; · iexact Ha
    isplitl [Ht]; · iexact Ht
    isplitl [Hp] <;> iassumption
  · iexists _; iexact HO

theorem dealt_eq : (bigSep Finset.univ fun c : Dev nD => Dealt m c)
    = iprop((bigSep Finset.univ fun c : Dev nD => StableHlo.held (c : Thread nD τ) outer (launched m c))
      ∗ (bigSep Finset.univ fun c : Dev nD => owes (c : Thread nD τ) (O₀ c) ∅)
      ∗ (bigSep barCells fun g => atPos ER g 0 ∅ 0) ∗ (bigSep dmaCells fun g => openTok ER g)
      ∗ (bigSep toks fun x => dutyTok ER x.1 x.2.1 x.2.2) ∗ bigSep Finset.univ fun c : Dev nD => Creds c) := by
  rw [deal]
  unfold barCells dmaCells
  rw [bigSep_map, bigSep_map, bigSep_univ_prod]
  simp only [Dealt, bigSep_sep']
  rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c)) ∗ levAts L lv)
      ⊢ (|={Set.univ}=> bigSep Finset.univ (First m) : sProp 𝕄) := by
  have hs : (bigSep Finset.univ seed : sProp 𝕄) ⊢ BI.own (ER x₀) :=
    (bigSep_elim (Φ := seed) (Finset.mem_univ (0 : Dev nD))).trans (Entails.of_eq (show seed 0 = (BI.own (ER x₀) : sProp 𝕄) from if_pos rfl))
  have hc : (bigSep Finset.univ fun c : Dev nD => (Pipeline.launchCred O₀ c : sProp 𝕄)) ⊢ bigSep Finset.univ fun c : Dev nD => Creds c :=
    bigSep_mono fun c _ => creds c
  have hb : (bigSep Finset.univ fun c : Dev nD => (unscopedBufs c (fun b => m ((c : Thread nD τ).loc b)) : sProp 𝕄))
      = bigSep Finset.univ fun c : Dev nD => StableHlo.held (c : Thread nD τ) outer (launched m c) :=
    bigSep_congr fun c _ => outer_held c (launched m c)
  have hsplit : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ seed c) : sProp 𝕄)
      = iprop((bigSep Finset.univ fun c : Dev nD => unscopedBufs c (fun b => m ((c : Thread nD τ).loc b)))
        ∗ (bigSep Finset.univ fun c : Dev nD => unscopedSems0 c) ∗ (bigSep Finset.univ fun c : Dev nD => owes (c : Thread nD τ) (O₀ c) ∅)
        ∗ (bigSep Finset.univ fun c : Dev nD => Pipeline.launchCred O₀ c) ∗ (bigSep Finset.univ fun c : Dev nD => prngReg c (ρ c))
        ∗ bigSep Finset.univ fun c : Dev nD => seed c) := by
    simp only [bigSep_sep']
  rw [hsplit, sems_bar, hb]
  iintro ⟨⟨Hh, Hs, HO, Hc, -, Hx⟩, #HL⟩
  ihave Hx := hs $$ Hx
  ihave Hc := hc $$ Hc
  imod (Rounds.fund_launch ER (Rd m) cells_disj (fun _ _ h => h) toks) $$ [Hs Hx] with ⟨%κ, -, #HI, #HR, Ha, Ht, Hd⟩
  · isplitl [Hs]; · iexact Hs
    iexact Hx
  imodintro
  iapply (bigSep_with_persistent (R := Live m fun p => κ (cell p.1 p.2)) fun c _ => first_intro m _ c)
  isplitr
  · iapply (live_intro m κ)
    isplitr; · iexact HL
    isplitr; · iexact HI
    iexact HR
  iapply (Entails.of_eq (dealt_eq m).symm)
  isplitl [Hh]; · iexact Hh
  isplitl [HO]; · iexact HO
  isplitl [Ha]; · iexact Ha
  isplitl [Ht]; · iexact Ht
  isplitl [Hd] <;> iassumption

/-- What a device's memory holds at the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((cfg0.win 0).arr.view.loc (c : Thread nD τ)) = res m c

set_option backward.isDefEq.respectTransparency.types false in
/-- Every run ends, with the arguments as launched, the result in place, and every semaphore at 0. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide)
    (O₀ := O₀) (hL := L_of_ne) (G := seed) (u₀ := u₀) (hu₀ := fund) (T₀ := First m) (Tₙ := Done m)
    (hch := ⟨fun _ => .rfl, fun _ => .rfl, fun _ => .rfl⟩)
    (hinit := init m ρ)
    (QY := fun c s => Ends m c s ∧ s.sem (cell c none) = 0)
    (hfin := fun c s' => by
      dsimp only [Done]; rw [V_main_arg0, V_main_arg1]
      iintro ⟨⟨Ha, H0, H1, Hb⟩, HSI⟩
      icombine HSI H0 gives %h0
      icombine HSI H1 gives %h1
      icombine HSI Hb gives %hb
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imodintro
      isplitr; · ipureintro; exact ⟨⟨Buf.eq_of_forall_mem_univ h0, Buf.eq_of_forall_mem_univ h1, (ha 0).trans (final_eq m c)⟩, hb⟩
      iexact HSI)
    (hQ := fun s h hs => ⟨fun c => (h c).1, sem_eq_zero hs fun c sm hsm => by
      obtain rfl : sm = .reg barS := by revert sm; decide
      exact (h c).2⟩)

end Cert.KernelIdealProof

end
-- ==== Proof.Values.Result.lean ====
/-
The result both programs compute, over the extended reals: the product of the whole `x` and `w` with its negative
entries replaced by zero, put on a scale whose largest step is 448 and taken back.
-/
module

public import Idealize.ShloMosaic.PureOps.Ideal
public import Idealize.ShloMosaic.PureOps.Ideal.Laws
public import Idealize.ShloMosaic.PureOps.Reduce
public import Idealize.ShloMosaic.Lib.ValueIdxCore

@[expose] public section

noncomputable section

namespace Cert.Values

open Idealize.ShloMosaic Idealize.ShloMosaic.ValueIdx
open scoped BigOperators

/-- The word `0x43E00000` denotes 448. -/
theorem ofBits_448 : Ideal.ofBits .f32 0x43E00000#32 = ((448 : ℝ) : EReal) := by
  simp [Ideal.ofBits, Ideal.ieee, -EReal.coe_mul]; norm_num
/-- The word `0xFF800000` denotes minus infinity. -/
theorem ofBits_bot : Ideal.ofBits .f32 0xFF800000#32 = ⊥ := by
  simp [Ideal.ofBits, Ideal.ieee]

/-! ## The two quantisers -/

/-- A quotient of reals by one that is not zero. -/
theorem div_coe (x : ℝ) {y : ℝ} (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- For an entry between zero and the largest one, multiplying by `448 / a` and by `a / 448` gives what dividing by
    `a / 448`, cutting at 448 and multiplying back gives. -/
theorem quantisers_agree (y a : EReal) (h0 : 0 ≤ y) (h1 : y ≤ a) :
    y * Ideal.div ((448 : ℝ) : EReal) a * Ideal.div a ((448 : ℝ) : EReal)
      = min (Ideal.div y (Ideal.div a ((448 : ℝ) : EReal))) ((448 : ℝ) : EReal) * Ideal.div a ((448 : ℝ) : EReal) := by
  have hk : ((448 : ℝ) : EReal) ≠ 0 := by exact_mod_cast (by norm_num : (448 : ℝ) ≠ 0)
  induction a with
  | bot => exact absurd (h0.trans h1) (by simp)
  | top =>
    have e1 : Ideal.div (⊤ : EReal) ((448 : ℝ) : EReal) = ⊤ := by
      rw [Ideal.div, if_neg hk, ← EReal.coe_inv]
      exact EReal.top_mul_coe_of_pos (by norm_num)
    have e2 : ∀ z : EReal, Ideal.div z (⊤ : EReal) = 0 := fun z => by
      rw [Ideal.div, if_neg (by simp), EReal.inv_top, mul_zero]
    have e3 : min (0 : EReal) ((448 : ℝ) : EReal) = 0 := min_eq_left (by exact_mod_cast (by norm_num : (0 : ℝ) ≤ 448))
    rw [e1, e2, e2, e3, mul_zero]
  | coe r =>
    have hr : 0 ≤ r := by exact_mod_cast h0.trans h1
    induction y with
    | bot => exact absurd h0 (by simp)
    | top => exact absurd h1 (by simp)
    | coe s =>
      have hs : 0 ≤ s := by exact_mod_cast h0
      have hsr : s ≤ r := by exact_mod_cast h1
      rw [div_coe r (by norm_num : (448 : ℝ) ≠ 0)]
      rcases hr.eq_or_lt with h | h
      · subst h
        simp
      · have h4 : r / 448 ≠ 0 := by positivity
        rw [div_coe s h4, div_coe 448 h.ne', ← EReal.coe_mul, ← EReal.coe_mul]
        have hm : min ((s / (r / 448) : ℝ) : EReal) ((448 : ℝ) : EReal) = ((s / (r / 448) : ℝ) : EReal) := by
          refine min_eq_left ?_
          rw [EReal.coe_le_coe_iff, div_le_iff₀ (by positivity)]
          linarith
        rw [hm, ← EReal.coe_mul]
        congr 1
        field_simp

/-! ## The result -/

/-- The entries of the product, negative ones replaced by zero. -/
def entry (X : (⟨2, ![4096, 4096]⟩ : Shape).Idx → EReal) (W : (⟨2, ![4096, 8192]⟩ : Shape).Idx → EReal) (a : Fin 4096) (b : Fin 8192) : EReal :=
  max (∑ k : Fin 4096, X (ix2 a k) * W (ix2 k b)) 0
/-- The largest of them. -/
def largest (X : (⟨2, ![4096, 4096]⟩ : Shape).Idx → EReal) (W : (⟨2, ![4096, 8192]⟩ : Shape).Idx → EReal) : EReal :=
  ⨆ a : Fin 4096, ⨆ b : Fin 8192, entry X W a b
/-- What the reference ends with. -/
def result (X : (⟨2, ![4096, 4096]⟩ : Shape).Idx → EReal) (W : (⟨2, ![4096, 8192]⟩ : Shape).Idx → EReal)
    (i : (⟨2, ![4096, 8192]⟩ : Shape).Idx) : EReal :=
  min (Ideal.div (entry X W (i 0) (i 1)) (Ideal.div (largest X W) ((448 : ℝ) : EReal))) ((448 : ℝ) : EReal)
    * Ideal.div (largest X W) ((448 : ℝ) : EReal)

section
variable (X : (⟨2, ![4096, 4096]⟩ : Shape).Idx → EReal) (W : (⟨2, ![4096, 8192]⟩ : Shape).Idx → EReal)

/-- No entry is negative. -/
theorem entry_nonneg (a : Fin 4096) (b : Fin 8192) : 0 ≤ entry X W a b := le_max_right _ _
/-- No entry exceeds the largest. -/
theorem entry_le_largest (a : Fin 4096) (b : Fin 8192) : entry X W a b ≤ largest X W := le_iSup₂ (f := fun a b => entry X W a b) a b
/-- A bound of all the entries bounds the largest. -/
theorem largest_le {z : EReal} (h : ∀ a b, entry X W a b ≤ z) : largest X W ≤ z := iSup₂_le h
/-- The largest entry is not negative. -/
theorem largest_nonneg : 0 ≤ largest X W := (entry_nonneg X W 0 0).trans (entry_le_largest X W 0 0)

/-- The kernel's quantiser, at the largest entry, gives the same result. -/
theorem result_eq (i : (⟨2, ![4096, 8192]⟩ : Shape).Idx) :
    entry X W (i 0) (i 1) * Ideal.div ((448 : ℝ) : EReal) (largest X W) * Ideal.div (largest X W) ((448 : ℝ) : EReal) = result X W i :=
  quantisers_agree _ _ (entry_nonneg X W _ _) (entry_le_largest X W _ _)
end

/-! ## Maxima and sums -/

/-- The maximum of all the entries of a vector, as a kernel takes it. -/
theorem multiReduction_max_le {s t : Shape} {axes : List (Fin s.rank)} (src : FVec Ideal s .f32) (h : s.Reduces axes t)
    (ht : ∀ b, t.size b = 1) (hφ : FKind.Formats .f32) (hacc : 0xFF800000#32 = FKind.maximumf.neutral .f32 hφ) (j : t.Idx) (z : EReal) :
    multiReduction .maximumf axes t src 0xFF800000#32 h hφ hacc j ≤ z ↔ ∀ i, src i ≤ z := by
  rw [multiReduction_maximumf_eq_fold, Finset.filter_true_of_mem fun i _ => funext fun b => Fin.ext (by
    have := (h.drop i b).isLt; have := (j b).isLt; have := ht b; omega)]
  show Finset.univ.fold max (Ideal.ofBits .f32 0xFF800000#32) src ≤ z ↔ _
  rw [ofBits_bot, Finset.fold_max_le]
  simp

/-- A sum over 4096 is the sum of the sums over its four blocks of 1024. -/
theorem sum_blocks (f : Fin 4096 → EReal) :
    ∑ k, f k = ∑ t : Fin 4, ∑ k : Fin 1024, f ⟨1024 * t.val + k.val, by omega⟩ := by
  rw [← Fintype.sum_prod_type' (f := fun (t : Fin 4) (k : Fin 1024) => f ⟨1024 * t.val + k.val, by omega⟩)]
  exact (Fintype.sum_equiv (finProdFinEquiv : Fin 4 × Fin 1024 ≃ Fin (4 * 1024)) _ _ fun p =>
    congrArg f (Fin.ext (by show 1024 * p.1.val + p.2.val = p.2.val + 1024 * p.1.val; omega))).symm

end Cert.Values
-- ==== Proof.Values.Payloads.lean ====
/-
The kernel's vector expressions, over the extended reals.
-/
module

public import proofs.«01_k».proof.Proof.Values.Result
public import proofs.«01_k».proof.Proof.Gen.KernelIdeal.Skeleton
public import Idealize.ShloMosaic.Lib.Pipeline.Value
public import Idealize.ShloMosaic.Lib.MatmulPlain

@[expose] public section

set_option maxRecDepth 8192

noncomputable section

namespace Cert.Values

open Cert.KernelIdeal Cert.KernelIdeal.Gen
open Idealize.ShloMosaic Idealize.ShloMosaic.TcCoe Idealize.ShloMosaic.ValueIdx
open scoped BigOperators

/-! ## The kernel's vector expressions at an index -/

/-- Casting a vector to another shape keeps its entries. -/
theorem forall_shapeCast {s t : Shape} (v : s.Idx → EReal) (h : s.ShapeCasts t) (z : EReal) :
    (∀ j, shapeCast t v h j ≤ z) ↔ ∀ i, v i ≤ z := by
  constructor
  · intro hj i
    have e : shapeCast t v h ((Shape.reshapeEquiv h).symm i) = v i := congrArg v ((Shape.reshapeEquiv h).apply_symm_apply i)
    exact e ▸ hj ((Shape.reshapeEquiv h).symm i)
  · exact fun hi j => hi (Shape.reshapeEquiv h j)

/-- A block cast to a matrix. -/
abbrev mat {e : EltTy} (x : Vec Ideal S1x1024x1024 e) : S1024x1024.Idx → Elt Ideal e :=
  shapeCast S1024x1024 x shapeCasts_S1x1024x1024_S1024x1024

/-- The product of two blocks at an index. -/
abbrev dot (x w : Vec Ideal S1x1024x1024 .bf16) (a b : Fin 1024) : EReal :=
  ∑ k : Fin 1024, mat x (ix2 a k) * mat w (ix2 k b)

/-- A product of two blocks added to zero is the sum over the shared dimension. -/
theorem product_apply (x w : Vec Ideal S1x1024x1024 .bf16) (a b : Fin 1024) :
    matmul (F := Ideal) (φ₁ := .bf16) (φ₂ := .bf16) dot_S1024x1024_S1024x1024_S1024x1024_1_0_0_1_n_n none (mat x) (mat w)
      (constant S1024x1024 .f32 0x00000000#32) (ix2 a b) = dot x w a b := by
  refine (Ideal.matmul_plain_apply none (mat x) (mat w) _ a b).trans ?_
  show Ideal.ofBits .f32 0x00000000#32 + _ = _
  rw [Ideal.ofBits_zero_f32, zero_add]

/-- The first phase's tile is the product. -/
theorem first_apply (x w : Vec Ideal S1x1024x1024 .bf16) (a b : Fin 1024) :
    k0_pay4 (F := Ideal) x w (ix2 a b) = dot x w a b := product_apply x w a b
/-- A middle phase adds its product to the tile. -/
theorem middle_apply (x w : Vec Ideal S1x1024x1024 .bf16) (v : Vec Ideal S1024x1024 .f32) (a b : Fin 1024) :
    k0_pay22 (F := Ideal) x w v (ix2 a b) = v (ix2 a b) + dot x w a b := by
  show shapeCast S1024x1024 v shapeCasts_S1024x1024_S1024x1024 (ix2 a b) + _ = _
  rw [shapeCast_self]
  exact congrArg _ (product_apply x w a b)
/-- The last phase adds its product and replaces negative entries by zero. -/
theorem last_apply (x w : Vec Ideal S1x1024x1024 .bf16) (v : Vec Ideal S1024x1024 .f32) (a b : Fin 1024) :
    k0_pay58 (F := Ideal) x w v (ix2 a b) = max (v (ix2 a b) + dot x w a b) 0 := by
  show max (shapeCast S1024x1024 v shapeCasts_S1024x1024_S1024x1024 (ix2 a b) + _) (Ideal.ofBits .f32 0x00000000#32) = _
  rw [shapeCast_self, Ideal.ofBits_zero_f32]
  exact congrArg (fun z => max (v (ix2 a b) + z) 0) (product_apply x w a b)

/-- The largest entry of a tile, as the kernel takes it. -/
def tops (v : FVec Ideal S1024x1024 .f32) : FVec Ideal S1 .f32 :=
  multiReduction .maximumf [1, 2] S1 (shapeCast S1x1024x1024 v shapeCasts_S1024x1024_S1x1024x1024)
    0xFF800000#32 reduces_S1x1024x1024_S1 (.inl rfl) rfl
/-- The same, read out as a number. -/
def top (v : FVec Ideal S1024x1024 .f32) : Ideal .f32 :=
  extractAt ![0, 0, 0] (shapeCast S1x1x1 (tops v) shapeCasts_S1_S1x1x1) inpos_S1x1x1_p0_0_0

/-- A number bounds the maximum of a tile exactly if it bounds all the entries. -/
theorem tops_le (v : FVec Ideal S1024x1024 .f32) (j : S1.Idx) (z : EReal) : tops v j ≤ z ↔ ∀ i, v i ≤ z :=
  (multiReduction_max_le _ reduces_S1x1024x1024_S1 (by decide) (.inl rfl) rfl j z).trans (forall_shapeCast v _ z)
/-- The same of the maximum read out as a number. -/
theorem top_le (v : FVec Ideal S1024x1024 .f32) (z : EReal) : top v ≤ z ↔ ∀ i, v i ≤ z := by
  unfold top extractAt shapeCast
  exact tops_le v _ z

/-- The first maximum: of zero and the tile's. -/
theorem start_max (x w : Vec Ideal S1x1024x1024 .bf16) (v : Vec Ideal S1024x1024 .f32) :
    k0_pay59 (F := Ideal) x w v = max (Ideal.ofBits .f32 0x00000000#32) (top (k0_pay58 x w v)) := by
  unfold k0_pay59 top tops
  exact Ideal.scalar_maximumf_def _ _
/-- A later maximum: of the one before and the tile's. -/
theorem next_max (q : Ideal .f32) (x w : Vec Ideal S1x1024x1024 .bf16) (v : Vec Ideal S1024x1024 .f32) :
    k0_pay62 (F := Ideal) q x w v = max q (top (k0_pay58 x w v)) := by
  unfold k0_pay62 top tops
  exact Ideal.scalar_maximumf_def _ _

/-- The largest entry of what the others sent. -/
def others (p : FVec Ideal S3x8x128 .f32) : FVec Ideal S1 .f32 :=
  multiReduction .maximumf [1, 2, 3] S1 (shapeCast S1x3x8x128 p shapeCasts_S3x8x128_S1x3x8x128)
    0xFF800000#32 reduces_S1x3x8x128_S1 (.inl rfl) rfl
/-- The same, read out as a number. -/
def other (p : FVec Ideal S3x8x128 .f32) : Ideal .f32 :=
  extractAt ![0, 0, 0, 0] (shapeCast S1x1x1x1 (others p) shapeCasts_S1_S1x1x1x1) inpos_S1x1x1x1_p0_0_0_0

/-- A number bounds the maximum of what the others sent exactly if it bounds all of it. -/
theorem others_le (p : FVec Ideal S3x8x128 .f32) (j : S1.Idx) (z : EReal) : others p j ≤ z ↔ ∀ i, p i ≤ z :=
  (multiReduction_max_le _ reduces_S1x3x8x128_S1 (by decide) (.inl rfl) rfl j z).trans (forall_shapeCast p _ z)
/-- The same of the maximum read out as a number. -/
theorem other_le (p : FVec Ideal S3x8x128 .f32) (z : EReal) : other p ≤ z ↔ ∀ i, p i ≤ z := by
  unfold other extractAt shapeCast
  exact others_le p _ z

/-- The maximum over the devices: of the own one and the others'. -/
theorem all_max (q : Ideal .f32) (p : FVec Ideal S3x8x128 .f32) : k0_pay83 (F := Ideal) q p = max q (other p) := by
  unfold k0_pay83 other others
  exact Ideal.scalar_maximumf_def _ _
/-- The scaling of a tile, at an entry. -/
theorem scaled (q : Ideal .f32) (p : FVec Ideal S3x8x128 .f32) (v : Vec Ideal S1024x1024 .f32) (i : S1024x1024.Idx) :
    k0_pay86 (F := Ideal) q p v i = shapeCast S1024x1024 v shapeCasts_S1024x1024_S1024x1024 i
      * Ideal.div (Ideal.ofBits .f32 0x43E00000#32) (k0_pay83 q p) * Ideal.div (k0_pay83 q p) (Ideal.ofBits .f32 0x43E00000#32) := rfl

end Cert.Values
-- ==== Proof.Values.Kernel.lean ====
/-
What the kernel ends with, over the extended reals: device `c`'s rows of the result.
-/
module

public import proofs.«01_k».proof.Proof.Values.Payloads
public import proofs.«01_k».proof.Proof.KernelIdeal.Run
public import Idealize.ShloMosaic.Lib.Layout

@[expose] public section

set_option maxRecDepth 8192

noncomputable section

namespace Cert.Values

open Cert.KernelIdeal Cert.KernelIdeal.Gen Cert.KernelIdealProof Cert.Steps
open Idealize.ShloMosaic Idealize.ShloMosaic.TcCoe Idealize.ShloMosaic.ValueIdx
open scoped BigOperators

variable (m : (ℓ : Loc nD τ sig) → Buf (Elt Ideal) ℓ)

/-- The running maximum starts at the larger of zero and the largest entry of the first tile. -/
theorem mx_zero (c : Dev nD) : mx m c 0 = max 0 (top (A3 m c 0)) := by
  have h := start_max (xv m c 3) (wb m c 3 0) (A2 m c 0)
  rw [Ideal.ofBits_zero_f32] at h
  exact h
/-- Each further tile takes it to the larger of itself and that tile's largest entry. -/
theorem mx_succ (c : Dev nD) (n : ℕ) : mx m c (n + 1) = max (mx m c n) (top (A3 m c (Fin.ofNat 8 (n + 1)))) :=
  next_max (mx m c n) (xv m c 3) (wb m c 3 (Fin.ofNat 8 (n + 1))) (A2 m c (Fin.ofNat 8 (n + 1)))

/-- A bound of zero and of all the tiles' entries bounds it. -/
theorem mx_le (c : Dev nD) (n : ℕ) (z : EReal) (h0 : 0 ≤ z) (h : ∀ n i, A3 m c n i ≤ z) : mx m c n ≤ z := by
  induction n with
  | zero => rw [mx_zero]; exact max_le h0 ((top_le _ z).mpr (h 0))
  | succ n ih => rw [mx_succ]; exact max_le ih ((top_le _ z).mpr (h _))
/-- It is no less than any entry of a tile already taken. -/
theorem le_mx (c : Dev nD) (k n : ℕ) (hk : k ≤ n) (i : S1024x1024.Idx) : A3 m c (Fin.ofNat 8 k) i ≤ mx m c n := by
  induction n with
  | zero =>
    obtain rfl : k = 0 := by omega
    rw [mx_zero]; exact ((top_le _ _).mp le_rfl i).trans (le_max_right _ _)
  | succ n ih =>
    rw [mx_succ]
    rcases Nat.lt_or_ge n k with h | h
    · obtain rfl : k = n + 1 := by omega
      exact ((top_le _ _).mp le_rfl i).trans (le_max_right _ _)
    · exact (ih h).trans (le_max_left _ _)

/-- The largest entry over all the devices, as device `c` finds it. -/
def all (c : Dev nD) : EReal := k0_pay83 (F := Ideal) (mx m c 7) (peers m c)

/-- Every device is the one at hand or one of its three peers. -/
theorem reached (c d : Dev nD) : d = c ∨ ∃ e, d = tgt c e := by revert c d; decide

/-- A number bounds the maximum over the devices exactly if it bounds the maximum of each. -/
theorem all_le (c : Dev nD) (z : EReal) : all m c ≤ z ↔ ∀ d : Dev nD, mx m d 7 ≤ z := by
  unfold all
  rw [all_max, max_le_iff, other_le]
  constructor
  · rintro ⟨h, hp⟩ d
    rcases reached c d with rfl | ⟨e, rfl⟩
    · exact h
    · exact hp (fun a => match a with | 0 => e | 1 => (0 : Fin 8) | 2 => (0 : Fin 128))
  · exact fun h => ⟨h c, fun i => h _⟩

/-- A scaled tile: each entry times 448 over the largest, times the largest over 448. -/
theorem scaled_apply (c : Dev nD) (n : Fin 8) (i : S1024x1024.Idx) :
    A4 m c n i = A3 m c n i * Ideal.div ((448 : ℝ) : EReal) (all m c) * Ideal.div (all m c) ((448 : ℝ) : EReal) := by
  unfold A4
  rw [scaled, shapeCast_self, ofBits_448]
  rfl

/-! ## Its blocks as parts of the whole arrays -/

/-- The cast of `x` to bf16 changes nothing over the extended reals. -/
theorem V_main_v1 (c : Dev nD) : V m c main_v1 = m ((c : Thread nD τ).loc main_arg0) := by
  show StableHlo.after hostOps0 _ (Proc.devRef .tc main_v1) = _
  after_results
  rfl

/-- The columns of `x`, and the rows of the result, fall into four blocks. -/
theorem tiles_columns : Layout.Tiles ⟨2, ![4096, 1024]⟩ ⟨2, ![4096, 4096]⟩ 1 4 := by decide
theorem tiles_rows : Layout.Tiles ⟨2, ![1024, 8192]⟩ ⟨2, ![4096, 8192]⟩ 0 4 := by decide

section
variable (X : (⟨2, ![4096, 4096]⟩ : Shape).Idx → EReal) (W : (⟨2, ![4096, 8192]⟩ : Shape).Idx → EReal)
variable (hX : ∀ c : Dev nD, m ((c : Thread nD τ).loc main_arg0) = Layout.block ⟨2, ![4096, 1024]⟩ ⟨2, ![4096, 4096]⟩ 1 4 c X tiles_columns)
variable (hW : ∀ c : Dev nD, m ((c : Thread nD τ).loc main_arg1) = W)

/-- Place `a` of block `t` of a dimension of 4096, and of block `n` of one of 8192. -/
abbrev pos (t : Fin 4) (a : Fin 1024) : Fin 4096 := ⟨1024 * t.val + a.val, by omega⟩
abbrev posN (n : Fin 8) (a : Fin 1024) : Fin 8192 := ⟨1024 * n.val + a.val, by omega⟩

include hX in
/-- Block `t` of what device `s` holds of `x` is the block in rows `t` and columns `s` of the whole. -/
theorem xt_apply (s t : Dev nD) (a b : Fin 1024) : mat (xt m s t) (ix2 a b) = X (ix2 (pos t a) (pos s b)) := by
  unfold xt mat
  rw [shapeCast_unsq]
  show V m s main_v1 ((vS t).view.emb (ix2 a b)) = _
  rw [V_main_v1, hX s, Layout.block_apply]
  refine congrArg X (funext fun d => Fin.ext ?_)
  match d with
  | 0 => exact (show 1024 * t.val + 1 * a.val = 1024 * t.val + a.val by omega)
  | 1 => exact (show s.val * 1024 + (0 + 1 * b.val) = 1024 * s.val + b.val by omega)

include hW in
/-- The tile of `w` used in phase `p` for columns `n` is the block in rows `blk c p` and columns `n`. -/
theorem wb_apply (c : Dev nD) (p : ℕ) (n : Fin 8) (a b : Fin 1024) : mat (wb m c p n) (ix2 a b) = W (ix2 (pos (blk c p) a) (posN n b)) := by
  show shapeCast S1024x1024 (shapeCast S1x1024x1024 (shapeCast S1024x1024 (wt m c p n) shapeCasts_S1x1024x1024_S1024x1024)
    shapeCasts_S1024x1024_S1x1024x1024) shapeCasts_S1x1024x1024_S1024x1024 (ix2 a b) = _
  rw [shapeCast_shapeCast]
  unfold wt wtile
  rw [shapeCast_unsq]
  show V m c main_arg1 ((wS (blk c p) n).view.emb (ix2 a b)) = _
  rw [V_main_arg1, hW c]
  refine congrArg W (funext fun d => Fin.ext ?_)
  match d with
  | 0 => exact (show 1024 * (blk c p).val + 1 * a.val = 1024 * (blk c p).val + a.val by omega)
  | 1 => exact (show 1024 * n.val + 1 * b.val = 1024 * n.val + b.val by omega)

/-- One block's part of an entry. -/
abbrev part (c : Dev nD) (n : Fin 8) (a b : Fin 1024) (t : Fin 4) : EReal :=
  ∑ k : Fin 1024, X (ix2 (pos c a) (pos t k)) * W (ix2 (pos t k) (posN n b))

include hX hW in
/-- The product of the two blocks of a phase is that block's part of the entry. -/
theorem dot_apply (c : Dev nD) (p : ℕ) (n : Fin 8) (a b : Fin 1024) : dot (xv m c p) (wb m c p n) a b = part X W c n a b (blk c p) :=
  Finset.sum_congr rfl fun k _ => by rw [wb_apply m W hW]; exact congrArg (· * _) (xt_apply m X hX _ _ a k)

/-- Each device takes each of the four blocks once. -/
theorem sum_blk (c : Dev nD) (f : Fin 4 → EReal) : f (blk c 0) + f (blk c 1) + f (blk c 2) + f (blk c 3) = ∑ t, f t := by
  rw [Fin.sum_univ_four]
  match c with
  | 0 => show f 0 + f 1 + f 3 + f 2 = _; abel
  | 1 => show f 1 + f 2 + f 0 + f 3 = _; abel
  | 2 => show f 2 + f 3 + f 1 + f 0 = _; abel
  | 3 => show f 3 + f 0 + f 2 + f 1 = _; abel

include hX hW in
/-- Before the scaling a tile holds the matching entries of the result's product. -/
theorem tile_apply (c : Dev nD) (n : Fin 8) (a b : Fin 1024) : A3 m c n (ix2 a b) = entry X W (pos c a) (posN n b) := by
  unfold A3 A2 A1 A0
  rw [last_apply, middle_apply, middle_apply, first_apply]
  simp only [dot_apply m X W hX hW]
  rw [sum_blk c (part X W c n a b)]
  exact congrArg (max · 0) (sum_blocks fun k => X (ix2 (pos c a) k) * W (ix2 k (posN n b))).symm

include hX hW in
/-- Each device finds the largest entry of the whole. -/
theorem all_eq (c : Dev nD) : all m c = largest X W := by
  have hA : ∀ (d : Dev nD) n i, A3 m d n i = entry X W (pos d (i 0)) (posN n (i 1)) := fun d n i =>
    (congrArg (A3 m d n) (eq_ix2 i)).trans (tile_apply m X W hX hW d n (i 0) (i 1))
  refine le_antisymm ((all_le m c _).mpr fun d => mx_le m d 7 _ (largest_nonneg X W) fun n i => ?_) (largest_le X W fun a b => ?_)
  · exact (hA d n i).le.trans (entry_le_largest X W _ _)
  · have ha : a = pos ⟨a.val / 1024, by omega⟩ ⟨a.val % 1024, by omega⟩ := Fin.ext (by show a.val = 1024 * (a.val / 1024) + a.val % 1024; omega)
    have hb : b = posN (Fin.ofNat 8 (b.val / 1024)) ⟨b.val % 1024, by omega⟩ :=
      Fin.ext (by show b.val = 1024 * (b.val / 1024 % 8) + b.val % 1024; omega)
    rw [ha, hb, ← tile_apply m X W hX hW]
    exact (le_mx m _ _ 7 (by omega) _).trans ((all_le m c _).mp le_rfl _)

include hX hW in
/-- Device `c` ends with its rows of the result. -/
theorem res_eq (c : Dev nD) : res m c = Layout.block ⟨2, ![1024, 8192]⟩ ⟨2, ![4096, 8192]⟩ 0 4 c (result X W) tiles_rows := by
  funext i
  rw [Layout.block_apply, ← result_eq]
  show A4 m c (tileOf i) (within i) = _
  rw [scaled_apply, all_eq m X W hX hW c]
  refine congrArg (· * _ * _) ?_
  refine (congrArg (A3 m c (tileOf i)) (eq_ix2 (within i))).trans ((tile_apply m X W hX hW c _ _ _).trans ?_)
  congr 1
  · exact Fin.ext (show 1024 * c.val + (i 0).val = c.val * 1024 + (i 0).val by omega)
  · exact Fin.ext (show 1024 * ((i 1).val / 1024) + (i 1).val % 1024 = (i 1).val by omega)

end

end Cert.Values
-- ==== Proof.Values.Reference.lean ====
/-
What the reference ends with, over the extended reals.
-/
module

public import proofs.«01_k».proof.Proof.Values.Result
public import proofs.«01_k».proof.Proof.Gen.ReferenceIdeal.Value
public import Idealize.ShloMosaic.Lib.StackMember
public import Idealize.ShloMosaic.Lib.Tactic
public import Idealize.ShloMosaic.Lib.Pipeline.ValueKit.Geometry

@[expose] public section

set_option maxRecDepth 8192

noncomputable section

namespace Cert.Values

open Cert.ReferenceIdeal Cert.ReferenceIdeal.Gen
open Idealize.ShloMosaic Idealize.ShloMosaic.TcCoe Idealize.ShloMosaic.ValueIdx
open scoped BigOperators

variable (m : (ℓ : Loc nD τ sig) → Buf (Elt Ideal) ℓ) (c : Dev nD)

/-- The two arguments. -/
abbrev refX : (⟨2, ![4096, 4096]⟩ : Shape).Idx → EReal := m ((c : Thread nD τ).loc main_arg0)
abbrev refW : (⟨2, ![4096, 8192]⟩ : Shape).Idx → EReal := m ((c : Thread nD τ).loc main_arg1)

/-- The reference's product with zero in place of negative entries. -/
def refY : FVec Ideal S4096x8192 .f32 :=
  maximumf (Host.dotGeneral (φ₁ := .f32) (φ₂ := .f32) dot_S4096x4096_S4096x8192_S4096x8192_1_0_0_1_n_n none (refX m c) (refW m c))
    (broadcastInDim S4096x8192 ![] bcast_S_S4096x8192 (constant S_ .f32 0x00000000#32))
/-- Its largest entry in absolute value, and its scale. -/
def refMax : FVec Ideal S_ .f32 :=
  Host.reduce FloatOps.maximumf (Host.absf (refY m c)) (constant S_ .f32 0xFF800000#32) reducesTo_S4096x8192_S_d0_1 h_S_
def refScale : FVec Ideal S_ .f32 := Host.divf (refMax m c) (constant S_ .f32 0x43E00000#32)

/-- The launch's first argument is the product with its negative entries replaced by zero. -/
theorem V_main_v2 : V m c main_v2 = refY m c := by
  show StableHlo.after hostOps0 _ (Proc.devRef .tc main_v2) = _
  after_results
  rfl
/-- Its second argument is the scale. -/
theorem V_main_v6 : V m c main_v6 = shapeCast S1x1 (refScale m c) shapeCasts_S_S1x1 := by
  show StableHlo.after hostOps0 _ (Proc.devRef .tc main_v6) = _
  after_results
  rfl

/-- The entries of that product. -/
theorem refY_apply (a : Fin 4096) (b : Fin 8192) : refY m c (ix2 a b) = entry (refX m c) (refW m c) a b := by
  show max (Host.dotGeneral (φ₁ := .f32) (φ₂ := .f32) (DotDims.plain 4096 4096 8192) none (refX m c) (refW m c) (ix2 a b)) (Ideal.ofBits .f32 0x00000000#32) = _
  rw [StackMember.dotGeneral_plain_apply, Ideal.ofBits_zero_f32]
  rfl

/-- The largest of them in absolute value is the largest of them. -/
theorem refMax_apply (j : S_.Idx) : refMax m c j = largest (refX m c) (refW m c) := by
  have habs : ∀ i : S4096x8192.Idx, Host.absf (refY m c) i = entry (refX m c) (refW m c) (i 0) (i 1) := fun i => by
    have h : refY m c i = entry (refX m c) (refW m c) (i 0) (i 1) :=
      (congrArg (refY m c) (eq_ix2 i)).trans (refY_apply m c (i 0) (i 1))
    show max (refY m c i) (-(refY m c i)) = _
    rw [h]
    have h0 := entry_nonneg (refX m c) (refW m c) (i 0) (i 1)
    exact max_eq_left ((EReal.neg_le_zero.mpr h0).trans h0)
  unfold refMax
  rw [Host.reduce_eq_fold, Finset.filter_true_of_mem fun i _ => funext fun b => b.elim0]
  show Finset.univ.fold max (Ideal.ofBits .f32 0xFF800000#32) (Host.absf (refY m c)) = _
  rw [ofBits_bot]
  refine le_antisymm ?_ ?_
  · rw [Finset.fold_max_le]
    exact ⟨bot_le, fun i _ => (habs i).le.trans (entry_le_largest _ _ _ _)⟩
  · refine largest_le _ _ fun a b => ?_
    rw [Finset.le_fold_max]
    exact .inr ⟨ix2 a b, Finset.mem_univ _, (habs (ix2 a b)).ge⟩

/-- The scale is the largest entry over 448. -/
theorem refScale_apply (j : S_.Idx) : refScale m c j = Ideal.div (largest (refX m c) (refW m c)) ((448 : ℝ) : EReal) := by
  show Ideal.div (refMax m c j) (Ideal.ofBits .f32 0x43E00000#32) = _
  rw [refMax_apply, ofBits_448]

/-- The input blocks are the whole arrays. -/
theorem iblk_0 (y : S4096x8192.Idx) : iblk m c 0 t0_0 y = V m c main_v2 y := by
  refine congrArg (V m c main_v2) (funext fun a => Fin.ext ?_)
  match a with
  | 0 => exact (show 0 + 1 * (y 0).val = (y 0).val by omega)
  | 1 => exact (show 0 + 1 * (y 1).val = (y 1).val by omega)
theorem iblk_1 (y : S1x1.Idx) : iblk m c 1 t0_0 y = V m c main_v6 y := by
  refine congrArg (V m c main_v6) (funext fun a => Fin.ext ?_)
  match a with
  | 0 => exact (show 0 + 1 * (y 0).val = (y 0).val by omega)
  | 1 => exact (show 0 + 1 * (y 1).val = (y 1).val by omega)

/-- What the reference's launch writes. -/
theorem out_apply (y : S4096x8192.Idx) :
    out0_2 (F := Ideal) (iblk m c 0 t0_0) (iblk m c 1 t0_0) y = result (refX m c) (refW m c) y := by
  refine (Value.canon2_eq _ _ y).trans ?_
  have hs : ∀ z : S1x1.Idx, iblk m c 1 t0_0 (r0_0.idx z) = Ideal.div (largest (refX m c) (refW m c)) ((448 : ℝ) : EReal) := fun z => by
    rw [iblk_1, V_main_v6]
    exact refScale_apply m c _
  have hy : iblk m c 0 t0_0 (r0_1.idx (Value.ix2_0 y)) = entry (refX m c) (refW m c) (y 0) (y 1) := by
    rw [iblk_0, V_main_v2]
    refine (congrArg (refY m c) (funext fun a => Fin.ext ?_)).trans (refY_apply m c (y 0) (y 1))
    match a with
    | 0 => exact (show 0 + 1 * (y 0).val = (y 0).val by omega)
    | 1 => exact (show 0 + 1 * (y 1).val = (y 1).val by omega)
  show min (Ideal.div (iblk m c 0 t0_0 (r0_1.idx (Value.ix2_0 y))) (iblk m c 1 t0_0 (r0_0.idx (Value.ix2_1 y)))) (Ideal.ofBits .f32 0x43E00000#32)
    * iblk m c 1 t0_0 (r0_0.idx (Value.ix2_2 y)) = _
  rw [hs, hy, ofBits_448]
  rfl

/-- All of the block is written back. -/
theorem cut_whole (X : S4096x8192.Idx → EReal) (i : S4096x8192.Idx) : (cfg0.win 2).cut (grid0.coords t0_0) X i = X i := by
  rw [Pipeline.Window.cut_apply]
  refine congrArg X (funext fun a => Fin.ext ?_)
  match a with
  | 0 => exact (show (i 0).val = (i 0).val from rfl)
  | 1 => exact (show (i 1).val = (i 1).val from rfl)

/-- What the reference's result array holds. -/
theorem ref_final : (dats m 0 c).arrAt 2 cfg0.N = result (refX m c) (refW m c) := by
  funext i
  have h := (dats m 0 c).arrAt_emb_eq_flushed 2 Value.disjoint2 t0_0 (flush0_2 _) i
  have hi : ((cfg0.win 2).blk t0_0).view.emb i = i := by
    funext a
    refine Fin.ext ?_
    match a with
    | 0 => exact (show 0 + 1 * (i 0).val = (i 0).val by omega)
    | 1 => exact (show 0 + 1 * (i 1).val = (i 1).val by omega)
  refine (congrArg _ hi).symm.trans (h.trans ?_)
  rw [Value.flushed2]
  exact (cast_eq _ _).trans ((cut_whole _ i).trans (out_apply m c i))

end Cert.Values
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Values.Kernel
public import proofs.«01_k».proof.Proof.Values.Reference
public import Idealize.ShloMosaic.Adequacy
public import Idealize.ShloMosaic.Init

@[expose] public section

noncomputable section

namespace Cert.Proof

open Idealize.ShloMosaic Idealize.SL.Sem Cert.Kernel

/-- Every run of the program, and of its reading over the reals, and of the reference's, ends with the arguments as launched
    and every semaphore at 0; and over the extended reals, from matching arguments, each device ends with its block of rows
    of the reference's result. -/
theorem claim : Cert.Claim := ⟨Cert.Kernel.Gen.facts, Cert.KernelIdeal.Gen.facts, Cert.ReferenceIdeal.Gen.facts,
  fun m g _ => (θ_run _ _ _).mono (fun _ h => ⟨fun c => ⟨(h.1 c).1, (h.1 c).2.1⟩, h.2⟩) (Cert.KernelProof.run_main m g),
  fun m g _ => (θ_run _ _ _).mono (fun _ h => ⟨fun c => ⟨(h.1 c).1, (h.1 c).2.1⟩, h.2⟩) (Cert.KernelIdealProof.run_main m g),
  fun m g _ => Cert.ReferenceIdeal.Gen.frame m g,
  trivial,
  fun m g m' g' _ h => ⟨Cert.Values.result (Cert.Values.refX m' 0) (Cert.Values.refW m' 0),
    (θ_run _ _ _).mono (fun _ r c =>
      ⟨(r.1 c).2.2.trans (Cert.Values.res_eq m _ _ (fun c => (h c).1) (fun c => (h c).2) c), (r.1 c).1, (r.1 c).2.1⟩)
      (Cert.KernelIdealProof.run_main m g),
    (θ_run _ _ _).mono (fun _ r => ⟨(r 0).1.trans (Cert.Values.ref_final m' 0), (r 0).2.1, (r 0).2.2⟩)
      (Cert.ReferenceIdeal.Value.run_blocks m' g')⟩⟩

end Cert.Proof

end
